-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x64x64 : Shape := ⟨4, ![4, 256, 64, 64]⟩
abbrev S4x256x32x32 : Shape := ⟨4, ![4, 256, 32, 32]⟩
abbrev S4x256x16x16 : Shape := ⟨4, ![4, 256, 16, 16]⟩
abbrev S4x256x8x8 : Shape := ⟨4, ![4, 256, 8, 8]⟩
abbrev S4x48960 : Shape := ⟨2, ![4, 48960]⟩
abbrev S14 : Shape := ⟨1, ![14]⟩
abbrev S4x1152 : Shape := ⟨2, ![4, 1152]⟩
abbrev S1 : Shape := ⟨1, ![1]⟩
abbrev S_ : Shape := ⟨0, ![]⟩
abbrev S4x4608 : Shape := ⟨2, ![4, 4608]⟩
abbrev S4x9216 : Shape := ⟨2, ![4, 9216]⟩
abbrev S4x576 : Shape := ⟨2, ![4, 576]⟩
abbrev S4x2880 : Shape := ⟨2, ![4, 2880]⟩
abbrev S48960x4 : Shape := ⟨2, ![48960, 4]⟩

abbrev nBuf : Space → Nat
  | .hbm => 8
  | .vmem => 2
  | .smem => 0
  | _ => 0

abbrev bufTy : (tb : Table) → Fin (tcTables nBuf tb) → BufTy
  | .hbm, ⟨0, _⟩ => ⟨S4x256x64x64, .f32⟩
  | .hbm, ⟨1, _⟩ => ⟨S4x256x32x32, .f32⟩
  | .hbm, ⟨2, _⟩ => ⟨S4x256x16x16, .f32⟩
  | .hbm, ⟨3, _⟩ => ⟨S4x256x8x8, .f32⟩
  | .hbm, ⟨4, _⟩ => ⟨S4x48960, .f32⟩
  | .hbm, ⟨5, _⟩ => ⟨S4x48960, .f32⟩
  | .hbm, ⟨6, _⟩ => ⟨S48960x4, .f32⟩
  | .hbm, ⟨7, _⟩ => ⟨S48960x4, .f32⟩
  | .local _ .vmem, ⟨0, _⟩ => ⟨S4x48960, .f32⟩
  | .local _ .vmem, ⟨1, _⟩ => ⟨S4x48960, .f32⟩
  | _, _ => ⟨S4x256x64x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none
-- ==== ReferenceIdeal.lean ====
abbrev S4x256x64x64 : Shape := ⟨4, ![4, 256, 64, 64]⟩
abbrev S4x256x32x32 : Shape := ⟨4, ![4, 256, 32, 32]⟩
abbrev S4x256x16x16 : Shape := ⟨4, ![4, 256, 16, 16]⟩
abbrev S4x256x8x8 : Shape := ⟨4, ![4, 256, 8, 8]⟩
abbrev S18 : Shape := ⟨1, ![18]⟩
abbrev S_ : Shape := ⟨0, ![]⟩
abbrev S63 : Shape := ⟨1, ![63]⟩
abbrev S1 : Shape := ⟨1, ![1]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S64x64x1x2 : Shape := ⟨4, ![64, 64, 1, 2]⟩
abbrev S64x64x9x2 : Shape := ⟨4, ![64, 64, 9, 2]⟩
abbrev S18x1x1 : Shape := ⟨3, ![18, 1, 1]⟩
abbrev S18x64x64 : Shape := ⟨3, ![18, 64, 64]⟩
abbrev S64x64x18 : Shape := ⟨3, ![64, 64, 18]⟩
abbrev S64x64x9x4 : Shape := ⟨4, ![64, 64, 9, 4]⟩
abbrev S36864x4 : Shape := ⟨2, ![36864, 4]⟩
abbrev S31 : Shape := ⟨1, ![31]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S32x32x1x2 : Shape := ⟨4, ![32, 32, 1, 2]⟩
abbrev S32x32x9x2 : Shape := ⟨4, ![32, 32, 9, 2]⟩
abbrev S18x32x32 : Shape := ⟨3, ![18, 32, 32]⟩
abbrev S32x32x18 : Shape := ⟨3, ![32, 32, 18]⟩
abbrev S32x32x9x4 : Shape := ⟨4, ![32, 32, 9, 4]⟩
abbrev S9216x4 : Shape := ⟨2, ![9216, 4]⟩
abbrev S15 : Shape := ⟨1, ![15]⟩
abbrev S16 : Shape := ⟨1, ![16]⟩
abbrev S16x16 : Shape := ⟨2, ![16, 16]⟩
abbrev S16x16x1 : Shape := ⟨3, ![16, 16, 1]⟩
abbrev S16x16x2 : Shape := ⟨3, ![16, 16, 2]⟩
abbrev S16x16x1x2 : Shape := ⟨4, ![16, 16, 1, 2]⟩
abbrev S16x16x9x2 : Shape := ⟨4, ![16, 16, 9, 2]⟩
abbrev S18x16x16 : Shape := ⟨3, ![18, 16, 16]⟩
abbrev S16x16x18 : Shape := ⟨3, ![16, 16, 18]⟩
abbrev S16x16x9x4 : Shape := ⟨4, ![16, 16, 9, 4]⟩
abbrev S2304x4 : Shape := ⟨2, ![2304, 4]⟩
abbrev S7 : Shape := ⟨1, ![7]⟩
abbrev S8 : Shape := ⟨1, ![8]⟩
abbrev S8x8 : Shape := ⟨2, ![8, 8]⟩
abbrev S8x8x1 : Shape := ⟨3, ![8, 8, 1]⟩
abbrev S8x8x2 : Shape := ⟨3, ![8, 8, 2]⟩
abbrev S8x8x1x2 : Shape := ⟨4, ![8, 8, 1, 2]⟩
abbrev S8x8x9x2 : Shape := ⟨4, ![8, 8, 9, 2]⟩
abbrev S18x8x8 : Shape := ⟨3, ![18, 8, 8]⟩
abbrev S8x8x18 : Shape := ⟨3, ![8, 8, 18]⟩
abbrev S8x8x9x4 : Shape := ⟨4, ![8, 8, 9, 4]⟩
abbrev S576x4 : Shape := ⟨2, ![576, 4]⟩
abbrev S48960x4 : Shape := ⟨2, ![48960, 4]⟩
abbrev S48960x2 : Shape := ⟨2, ![48960, 2]⟩

abbrev nBuf : Space → Nat
  | .hbm => 256
  | .vmem => 0
  | .smem => 0
  | _ => 0

abbrev hbmTy0_0 (i : Nat) : BufTy := match i % 128 with
  | 0 => ⟨S4x256x64x64, .f32⟩
  | 1 => ⟨S4x256x32x32, .f32⟩
  | 2 => ⟨S4x256x16x16, .f32⟩
  | 3 => ⟨S4x256x8x8, .f32⟩
  | 4 => ⟨S18, .f32⟩
  | 5 => ⟨S18, .f32⟩
  | 6 => ⟨S18, .f32⟩
  | 7 => ⟨S18, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S63, .f32⟩
  | 16 => ⟨S_, .f32⟩
  | 17 => ⟨S63, .f32⟩
  | 18 => ⟨S63, .f32⟩
  | 19 => ⟨S1, .f32⟩
  | 20 => ⟨S_, .f32⟩
  | 21 => ⟨S63, .f32⟩
  | 22 => ⟨S63, .f32⟩
  | 23 => ⟨S63, .f32⟩
  | 24 => ⟨S63, .f32⟩
  | 25 => ⟨S1, .f32⟩
  | 26 => ⟨S63, .f32⟩
  | 27 => ⟨S63, .f32⟩
  | 28 => ⟨S63, .f32⟩
  | 29 => ⟨S1, .f32⟩
  | 30 => ⟨S64, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S63, .f32⟩
  | 39 => ⟨S_, .f32⟩
  | 40 => ⟨S63, .f32⟩
  | 41 => ⟨S63, .f32⟩
  | 42 => ⟨S1, .f32⟩
  | 43 => ⟨S_, .f32⟩
  | 44 => ⟨S63, .f32⟩
  | 45 => ⟨S63, .f32⟩
  | 46 => ⟨S63, .f32⟩
  | 47 => ⟨S63, .f32⟩
  | 48 => ⟨S1, .f32⟩
  | 49 => ⟨S63, .f32⟩
  | 50 => ⟨S63, .f32⟩
  | 51 => ⟨S63, .f32⟩
  | 52 => ⟨S1, .f32⟩
  | 53 => ⟨S64, .f32⟩
  | 54 => ⟨S64x64, .f32⟩
  | 55 => ⟨S64x64, .f32⟩
  | 56 => ⟨S64x64x1, .f32⟩
  | 57 => ⟨S64x64x1, .f32⟩
  | 58 => ⟨S64x64x2, .f32⟩
  | 59 => ⟨S64x64x1x2, .f32⟩
  | 60 => ⟨S64x64x9x2, .f32⟩
  | 61 => ⟨S18x1x1, .f32⟩
  | 62 => ⟨S18x64x64, .f32⟩
  | 63 => ⟨S64x64x18, .f32⟩
  | 64 => ⟨S64x64x9x2, .f32⟩
  | 65 => ⟨S64x64x9x4, .f32⟩
  | 66 => ⟨S36864x4, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S31, .f32⟩
  | 75 => ⟨S_, .f32⟩
  | 76 => ⟨S31, .f32⟩
  | 77 => ⟨S31, .f32⟩
  | 78 => ⟨S1, .f32⟩
  | 79 => ⟨S_, .f32⟩
  | 80 => ⟨S31, .f32⟩
  | 81 => ⟨S31, .f32⟩
  | 82 => ⟨S31, .f32⟩
  | 83 => ⟨S31, .f32⟩
  | 84 => ⟨S1, .f32⟩
  | 85 => ⟨S31, .f32⟩
  | 86 => ⟨S31, .f32⟩
  | 87 => ⟨S31, .f32⟩
  | 88 => ⟨S1, .f32⟩
  | 89 => ⟨S32, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S31, .f32⟩
  | 98 => ⟨S_, .f32⟩
  | 99 => ⟨S31, .f32⟩
  | 100 => ⟨S31, .f32⟩
  | 101 => ⟨S1, .f32⟩
  | 102 => ⟨S_, .f32⟩
  | 103 => ⟨S31, .f32⟩
  | 104 => ⟨S31, .f32⟩
  | 105 => ⟨S31, .f32⟩
  | 106 => ⟨S31, .f32⟩
  | 107 => ⟨S1, .f32⟩
  | 108 => ⟨S31, .f32⟩
  | 109 => ⟨S31, .f32⟩
  | 110 => ⟨S31, .f32⟩
  | 111 => ⟨S1, .f32⟩
  | 112 => ⟨S32, .f32⟩
  | 113 => ⟨S32x32, .f32⟩
  | 114 => ⟨S32x32, .f32⟩
  | 115 => ⟨S32x32x1, .f32⟩
  | 116 => ⟨S32x32x1, .f32⟩
  | 117 => ⟨S32x32x2, .f32⟩
  | 118 => ⟨S32x32x1x2, .f32⟩
  | 119 => ⟨S32x32x9x2, .f32⟩
  | 120 => ⟨S18x1x1, .f32⟩
  | 121 => ⟨S18x32x32, .f32⟩
  | 122 => ⟨S32x32x18, .f32⟩
  | 123 => ⟨S32x32x9x2, .f32⟩
  | 124 => ⟨S32x32x9x4, .f32⟩
  | 125 => ⟨S9216x4, .f32⟩
  | 126 => ⟨S_, .f32⟩
  | 127 => ⟨S_, .f32⟩
  | _ => ⟨S4x256x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S15, .f32⟩
  | 6 => ⟨S_, .f32⟩
  | 7 => ⟨S15, .f32⟩
  | 8 => ⟨S15, .f32⟩
  | 9 => ⟨S1, .f32⟩
  | 10 => ⟨S_, .f32⟩
  | 11 => ⟨S15, .f32⟩
  | 12 => ⟨S15, .f32⟩
  | 13 => ⟨S15, .f32⟩
  | 14 => ⟨S15, .f32⟩
  | 15 => ⟨S1, .f32⟩
  | 16 => ⟨S15, .f32⟩
  | 17 => ⟨S15, .f32⟩
  | 18 => ⟨S15, .f32⟩
  | 19 => ⟨S1, .f32⟩
  | 20 => ⟨S16, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S15, .f32⟩
  | 29 => ⟨S_, .f32⟩
  | 30 => ⟨S15, .f32⟩
  | 31 => ⟨S15, .f32⟩
  | 32 => ⟨S1, .f32⟩
  | 33 => ⟨S_, .f32⟩
  | 34 => ⟨S15, .f32⟩
  | 35 => ⟨S15, .f32⟩
  | 36 => ⟨S15, .f32⟩
  | 37 => ⟨S15, .f32⟩
  | 38 => ⟨S1, .f32⟩
  | 39 => ⟨S15, .f32⟩
  | 40 => ⟨S15, .f32⟩
  | 41 => ⟨S15, .f32⟩
  | 42 => ⟨S1, .f32⟩
  | 43 => ⟨S16, .f32⟩
  | 44 => ⟨S16x16, .f32⟩
  | 45 => ⟨S16x16, .f32⟩
  | 46 => ⟨S16x16x1, .f32⟩
  | 47 => ⟨S16x16x1, .f32⟩
  | 48 => ⟨S16x16x2, .f32⟩
  | 49 => ⟨S16x16x1x2, .f32⟩
  | 50 => ⟨S16x16x9x2, .f32⟩
  | 51 => ⟨S18x1x1, .f32⟩
  | 52 => ⟨S18x16x16, .f32⟩
  | 53 => ⟨S16x16x18, .f32⟩
  | 54 => ⟨S16x16x9x2, .f32⟩
  | 55 => ⟨S16x16x9x4, .f32⟩
  | 56 => ⟨S2304x4, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S7, .f32⟩
  | 65 => ⟨S_, .f32⟩
  | 66 => ⟨S7, .f32⟩
  | 67 => ⟨S7, .f32⟩
  | 68 => ⟨S1, .f32⟩
  | 69 => ⟨S_, .f32⟩
  | 70 => ⟨S7, .f32⟩
  | 71 => ⟨S7, .f32⟩
  | 72 => ⟨S7, .f32⟩
  | 73 => ⟨S7, .f32⟩
  | 74 => ⟨S1, .f32⟩
  | 75 => ⟨S7, .f32⟩
  | 76 => ⟨S7, .f32⟩
  | 77 => ⟨S7, .f32⟩
  | 78 => ⟨S1, .f32⟩
  | 79 => ⟨S8, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S7, .f32⟩
  | 88 => ⟨S_, .f32⟩
  | 89 => ⟨S7, .f32⟩
  | 90 => ⟨S7, .f32⟩
  | 91 => ⟨S1, .f32⟩
  | 92 => ⟨S_, .f32⟩
  | 93 => ⟨S7, .f32⟩
  | 94 => ⟨S7, .f32⟩
  | 95 => ⟨S7, .f32⟩
  | 96 => ⟨S7, .f32⟩
  | 97 => ⟨S1, .f32⟩
  | 98 => ⟨S7, .f32⟩
  | 99 => ⟨S7, .f32⟩
  | 100 => ⟨S7, .f32⟩
  | 101 => ⟨S1, .f32⟩
  | 102 => ⟨S8, .f32⟩
  | 103 => ⟨S8x8, .f32⟩
  | 104 => ⟨S8x8, .f32⟩
  | 105 => ⟨S8x8x1, .f32⟩
  | 106 => ⟨S8x8x1, .f32⟩
  | 107 => ⟨S8x8x2, .f32⟩
  | 108 => ⟨S8x8x1x2, .f32⟩
  | 109 => ⟨S8x8x9x2, .f32⟩
  | 110 => ⟨S18x1x1, .f32⟩
  | 111 => ⟨S18x8x8, .f32⟩
  | 112 => ⟨S8x8x18, .f32⟩
  | 113 => ⟨S8x8x9x2, .f32⟩
  | 114 => ⟨S8x8x9x4, .f32⟩
  | 115 => ⟨S576x4, .f32⟩
  | 116 => ⟨S48960x4, .f32⟩
  | 117 => ⟨S48960x2, .f32⟩
  | 118 => ⟨S48960x2, .f32⟩
  | 119 => ⟨S_, .f32⟩
  | 120 => ⟨S48960x2, .f32⟩
  | 121 => ⟨S48960x2, .f32⟩
  | 122 => ⟨S48960x2, .f32⟩
  | 123 => ⟨S_, .f32⟩
  | 124 => ⟨S48960x2, .f32⟩
  | 125 => ⟨S48960x2, .f32⟩
  | 126 => ⟨S48960x2, .f32⟩
  | 127 => ⟨S48960x4, .f32⟩
  | _ => ⟨S4x256x64x64, .f32⟩

abbrev hbmTy (i : Nat) : BufTy := match i / 128 with
  | 0 => hbmTy0_0 i
  | 1 => hbmTy0_1 i
  | _ => ⟨S4x256x64x64, .f32⟩

abbrev bufTy : (tb : Table) → Fin (tcTables nBuf tb) → BufTy
  | .hbm, ⟨i, _⟩ => hbmTy i
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_cst : Ref sig .tc := ⟨.hbm, 36, rfl⟩
abbrev main_call1_v3 : Ref sig .tc := ⟨.hbm, 37, rfl⟩
abbrev main_call1_v4 : Ref sig .tc := ⟨.hbm, 38, rfl⟩
abbrev main_call1_cst_0 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_cst_1 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_v15 : Ref sig .tc := ⟨.hbm, 51, rfl⟩
abbrev main_call1_v16 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_7 : Ref sig .tc := ⟨.hbm, 67, rfl⟩
abbrev main_cst_8 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_cst : Ref sig .tc := ⟨.hbm, 72, rfl⟩
abbrev main_call2_v3 : Ref sig .tc := ⟨.hbm, 73, rfl⟩
abbrev main_call2_v4 : Ref sig .tc := ⟨.hbm, 74, rfl⟩
abbrev main_call2_cst_0 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_v15 : Ref sig .tc := ⟨.hbm, 87, rfl⟩
abbrev main_call2_v16 : Ref sig .tc := ⟨.hbm, 88, rfl⟩
abbrev main_v15 : Ref sig .tc := ⟨.hbm, 89, rfl⟩
abbrev main_cst_9 : Ref sig .tc := ⟨.hbm, 90, rfl⟩
abbrev main_cst_10 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_cst : Ref sig .tc := ⟨.hbm, 95, rfl⟩
abbrev main_call3_v3 : Ref sig .tc := ⟨.hbm, 96, rfl⟩
abbrev main_call3_v4 : Ref sig .tc := ⟨.hbm, 97, rfl⟩
abbrev main_call3_cst_0 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_cst_1 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_v15 : Ref sig .tc := ⟨.hbm, 110, rfl⟩
abbrev main_call3_v16 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_cst_11 : Ref sig .tc := ⟨.hbm, 126, rfl⟩
abbrev main_cst_12 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_call4_cst : Ref sig .tc := ⟨.hbm, 131, rfl⟩
abbrev main_call4_v3 : Ref sig .tc := ⟨.hbm, 132, rfl⟩
abbrev main_call4_v4 : Ref sig .tc := ⟨.hbm, 133, rfl⟩
abbrev main_call4_cst_0 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_cst_1 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_v12 : Ref sig .tc := ⟨.hbm, 143, rfl⟩
abbrev main_call4_v13 : Ref sig .tc := ⟨.hbm, 144, rfl⟩
abbrev main_call4_v14 : Ref sig .tc := ⟨.hbm, 145, rfl⟩
abbrev main_call4_v15 : Ref sig .tc := ⟨.hbm, 146, rfl⟩
abbrev main_call4_v16 : Ref sig .tc := ⟨.hbm, 147, rfl⟩
abbrev main_v30 : Ref sig .tc := ⟨.hbm, 148, rfl⟩
abbrev main_cst_13 : Ref sig .tc := ⟨.hbm, 149, rfl⟩
abbrev main_cst_14 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_call5_cst : Ref sig .tc := ⟨.hbm, 154, rfl⟩
abbrev main_call5_v3 : Ref sig .tc := ⟨.hbm, 155, rfl⟩
abbrev main_call5_v4 : Ref sig .tc := ⟨.hbm, 156, rfl⟩
abbrev main_call5_cst_0 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_cst_1 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_v15 : Ref sig .tc := ⟨.hbm, 169, rfl⟩
abbrev main_call5_v16 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_v34 : Ref sig .tc := ⟨.hbm, 174, rfl⟩
abbrev main_v35 : Ref sig .tc := ⟨.hbm, 175, rfl⟩
abbrev main_v36 : Ref sig .tc := ⟨.hbm, 176, rfl⟩
abbrev main_v37 : Ref sig .tc := ⟨.hbm, 177, rfl⟩
abbrev main_v38 : Ref sig .tc := ⟨.hbm, 178, rfl⟩
abbrev main_v39 : Ref sig .tc := ⟨.hbm, 179, rfl⟩
abbrev main_v40 : Ref sig .tc := ⟨.hbm, 180, rfl⟩
abbrev main_v41 : Ref sig .tc := ⟨.hbm, 181, rfl⟩
abbrev main_v42 : Ref sig .tc := ⟨.hbm, 182, rfl⟩
abbrev main_v43 : Ref sig .tc := ⟨.hbm, 183, rfl⟩
abbrev main_v44 : Ref sig .tc := ⟨.hbm, 184, rfl⟩
abbrev main_cst_15 : Ref sig .tc := ⟨.hbm, 185, rfl⟩
abbrev main_cst_16 : Ref sig .tc := ⟨.hbm, 186, rfl⟩
abbrev main_call6_v0 : Ref sig .tc := ⟨.hbm, 187, rfl⟩
abbrev main_call6_v1 : Ref sig .tc := ⟨.hbm, 188, rfl⟩
abbrev main_call6_v2 : Ref sig .tc := ⟨.hbm, 189, rfl⟩
abbrev main_call6_cst : Ref sig .tc := ⟨.hbm, 190, rfl⟩
abbrev main_call6_v3 : Ref sig .tc := ⟨.hbm, 191, rfl⟩
abbrev main_call6_v4 : Ref sig .tc := ⟨.hbm, 192, rfl⟩
abbrev main_call6_cst_0 : Ref sig .tc := ⟨.hbm, 193, rfl⟩
abbrev main_call6_v5 : Ref sig .tc := ⟨.hbm, 194, rfl⟩
abbrev main_call6_v6 : Ref sig .tc := ⟨.hbm, 195, rfl⟩
abbrev main_call6_v7 : Ref sig .tc := ⟨.hbm, 196, rfl⟩
abbrev main_call6_cst_1 : Ref sig .tc := ⟨.hbm, 197, rfl⟩
abbrev main_call6_v8 : Ref sig .tc := ⟨.hbm, 198, rfl⟩
abbrev main_call6_v9 : Ref sig .tc := ⟨.hbm, 199, rfl⟩
abbrev main_call6_v10 : Ref sig .tc := ⟨.hbm, 200, rfl⟩
abbrev main_call6_v11 : Ref sig .tc := ⟨.hbm, 201, rfl⟩
abbrev main_call6_v12 : Ref sig .tc := ⟨.hbm, 202, rfl⟩
abbrev main_call6_v13 : Ref sig .tc := ⟨.hbm, 203, rfl⟩
abbrev main_call6_v14 : Ref sig .tc := ⟨.hbm, 204, rfl⟩
abbrev main_call6_v15 : Ref sig .tc := ⟨.hbm, 205, rfl⟩
abbrev main_call6_v16 : Ref sig .tc := ⟨.hbm, 206, rfl⟩
abbrev main_v45 : Ref sig .tc := ⟨.hbm, 207, rfl⟩
abbrev main_cst_17 : Ref sig .tc := ⟨.hbm, 208, rfl⟩
abbrev main_cst_18 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_cst : Ref sig .tc := ⟨.hbm, 213, rfl⟩
abbrev main_call7_v3 : Ref sig .tc := ⟨.hbm, 214, rfl⟩
abbrev main_call7_v4 : Ref sig .tc := ⟨.hbm, 215, rfl⟩
abbrev main_call7_cst_0 : Ref sig .tc := ⟨.hbm, 216, rfl⟩
abbrev main_call7_v5 : Ref sig .tc := ⟨.hbm, 217, rfl⟩
abbrev main_call7_v6 : Ref sig .tc := ⟨.hbm, 218, rfl⟩
abbrev main_call7_v7 : Ref sig .tc := ⟨.hbm, 219, rfl⟩
abbrev main_call7_cst_1 : Ref sig .tc := ⟨.hbm, 220, rfl⟩
abbrev main_call7_v8 : Ref sig .tc := ⟨.hbm, 221, rfl⟩
abbrev main_call7_v9 : Ref sig .tc := ⟨.hbm, 222, rfl⟩
abbrev main_call7_v10 : Ref sig .tc := ⟨.hbm, 223, rfl⟩
abbrev main_call7_v11 : Ref sig .tc := ⟨.hbm, 224, rfl⟩
abbrev main_call7_v12 : Ref sig .tc := ⟨.hbm, 225, rfl⟩
abbrev main_call7_v13 : Ref sig .tc := ⟨.hbm, 226, rfl⟩
abbrev main_call7_v14 : Ref sig .tc := ⟨.hbm, 227, rfl⟩
abbrev main_call7_v15 : Ref sig .tc := ⟨.hbm, 228, rfl⟩
abbrev main_call7_v16 : Ref sig .tc := ⟨.hbm, 229, rfl⟩
abbrev main_v46 : Ref sig .tc := ⟨.hbm, 230, rfl⟩
abbrev main_v47 : Ref sig .tc := ⟨.hbm, 231, rfl⟩
abbrev main_v48 : Ref sig .tc := ⟨.hbm, 232, rfl⟩
abbrev main_v49 : Ref sig .tc := ⟨.hbm, 233, rfl⟩
abbrev main_v50 : Ref sig .tc := ⟨.hbm, 234, rfl⟩
abbrev main_v51 : Ref sig .tc := ⟨.hbm, 235, rfl⟩
abbrev main_v52 : Ref sig .tc := ⟨.hbm, 236, rfl⟩
abbrev main_v53 : Ref sig .tc := ⟨.hbm, 237, rfl⟩
abbrev main_v54 : Ref sig .tc := ⟨.hbm, 238, rfl⟩
abbrev main_v55 : Ref sig .tc := ⟨.hbm, 239, rfl⟩
abbrev main_v56 : Ref sig .tc := ⟨.hbm, 240, rfl⟩
abbrev main_v57 : Ref sig .tc := ⟨.hbm, 241, rfl⟩
abbrev main_v58 : Ref sig .tc := ⟨.hbm, 242, rfl⟩
abbrev main_v59 : Ref sig .tc := ⟨.hbm, 243, rfl⟩
abbrev main_v60 : Ref sig .tc := ⟨.hbm, 244, rfl⟩
abbrev main_v61 : Ref sig .tc := ⟨.hbm, 245, rfl⟩
abbrev main_v62 : Ref sig .tc := ⟨.hbm, 246, rfl⟩
abbrev main_cst_19 : Ref sig .tc := ⟨.hbm, 247, rfl⟩
abbrev main_v63 : Ref sig .tc := ⟨.hbm, 248, rfl⟩
abbrev main_v64 : Ref sig .tc := ⟨.hbm, 249, rfl⟩
abbrev main_v65 : Ref sig .tc := ⟨.hbm, 250, rfl⟩
abbrev main_cst_20 : Ref sig .tc := ⟨.hbm, 251, rfl⟩
abbrev main_v66 : Ref sig .tc := ⟨.hbm, 252, rfl⟩
abbrev main_v67 : Ref sig .tc := ⟨.hbm, 253, rfl⟩
abbrev main_v68 : Ref sig .tc := ⟨.hbm, 254, rfl⟩
abbrev main_v69 : Ref sig .tc := ⟨.hbm, 255, rfl⟩

abbrev nD : Nat := 1
abbrev τ : Topo := Topo.v7x

variable {F : FTy → Type} [FloatOps F]
-- ==== Proof.Anchors.lean ====
/- The values the kernel stores, as one scalar function of the level, the chunk and the place inside the chunk.

   The kernel fills two 4 × 48960 tables. Table one holds a box as (centre x, centre y, width, height), table two as the two
   opposite corners. The tables are filled in chunks of 1152 lanes (the last one of 576): chunks 0 to 31 belong to the first
   level, 32 to 39 to the second, 40 and 41 to the third, 42 to the last. -/
module

public import Idealize.ShloMosaic.PureOps
public import Idealize.ShloMosaic.Lib.Writes

@[expose] public section

noncomputable section

namespace Cert.Anchors

open Idealize.ShloMosaic

/-- The constants of one level, as float words: one over the grid's width, the grid's width, the stride, half the stride,
    and the widths of the nine boxes of a cell. -/
structure Level where
  inv : BitVec 32
  wid : BitVec 32
  str : BitVec 32
  half : BitVec 32
  w0 : BitVec 32
  w1 : BitVec 32
  w2 : BitVec 32
  w3 : BitVec 32
  w4 : BitVec 32
  w5 : BitVec 32
  w6 : BitVec 32
  w7 : BitVec 32
  w8 : BitVec 32

def level0 : Level := ⟨0x3C800000#32, 0x42800000#32, 0x41000000#32, 0x40800000#32, 0x41B504F3#32, 0x41E411F0#32, 0x420FACD6#32,
  0x42000000#32, 0x42214518#32, 0x424B2FF5#32, 0x423504F3#32, 0x426411F0#32, 0x428FACD6#32⟩

def level1 : Level := ⟨0x3D000000#32, 0x42000000#32, 0x41800000#32, 0x41000000#32, 0x423504F3#32, 0x426411F0#32, 0x428FACD6#32,
  0x42800000#32, 0x42A14518#32, 0x42CB2FF5#32, 0x42B504F3#32, 0x42E411F0#32, 0x430FACD6#32⟩

def level2 : Level := ⟨0x3D800000#32, 0x41800000#32, 0x42000000#32, 0x41800000#32, 0x42B504F3#32, 0x42E411F0#32, 0x430FACD6#32,
  0x43000000#32, 0x43214518#32, 0x434B2FF5#32, 0x433504F3#32, 0x436411F0#32, 0x438FACD6#32⟩

def level3 : Level := ⟨0x3E000000#32, 0x41000000#32, 0x42800000#32, 0x42000000#32, 0x433504F3#32, 0x436411F0#32, 0x438FACD6#32,
  0x43800000#32, 0x43A14518#32, 0x43CB2FF5#32, 0x43B504F3#32, 0x43E411F0#32, 0x440FACD6#32⟩

/-- The level chunk `k` belongs to. -/
def lvl (k : ℕ) : Level := if k < 32 then level0 else if k < 40 then level1 else if k < 42 then level2 else level3

/-- How far down the image chunk `k` starts, as a float word: sixteen pixels more for each chunk of the first level. -/
def dyTab : List (BitVec 32) :=
  [0x00000000#32, 0x41800000#32, 0x42000000#32, 0x42400000#32, 0x42800000#32, 0x42A00000#32, 0x42C00000#32, 0x42E00000#32,
   0x43000000#32, 0x43100000#32, 0x43200000#32, 0x43300000#32, 0x43400000#32, 0x43500000#32, 0x43600000#32, 0x43700000#32,
   0x43800000#32, 0x43880000#32, 0x43900000#32, 0x43980000#32, 0x43A00000#32, 0x43A80000#32, 0x43B00000#32, 0x43B80000#32,
   0x43C00000#32, 0x43C80000#32, 0x43D00000#32, 0x43D80000#32, 0x43E00000#32, 0x43E80000#32, 0x43F00000#32, 0x43F80000#32,
   0x00000000#32, 0x42800000#32, 0x43000000#32, 0x43400000#32, 0x43800000#32, 0x43A00000#32, 0x43C00000#32, 0x43E00000#32,
   0x00000000#32, 0x43800000#32, 0x00000000#32]

def dy (k : ℕ) : BitVec 32 := dyTab.getD k 0#32

variable {F : FTy → Type} [FloatOps F]

/-- The float a word stands for. -/
abbrev fb (b : BitVec 32) : F .f32 := Scalar.ofBits .f32 b

section Values

variable (P : Level) (d : BitVec 32)

/-- The lane number as a float. -/
def lane (l : BitVec 32) : F .f32 := FloatOps.sitofp .f32 l
/-- The cell of the chunk the lane falls in: the lane number over nine, rounded down. -/
def cell (l : BitVec 32) : F .f32 := FloatOps.floor (FloatOps.mulf (FloatOps.addf (lane l) (fb 0x3F000000#32)) (fb 0x3DE38E39#32))
/-- Which of the cell's nine boxes the lane is. -/
def kind (l : BitVec 32) : F .f32 := FloatOps.subf (lane l) (FloatOps.mulf (fb 0x41100000#32) (cell l))
/-- The grid row of the cell, within the chunk. -/
def row (l : BitVec 32) : F .f32 := FloatOps.floor (FloatOps.mulf (cell l) (fb P.inv))
/-- The grid column of the cell. -/
def col (l : BitVec 32) : F .f32 := FloatOps.subf (cell l) (FloatOps.mulf (row P l) (fb P.wid))
/-- The box's centre x. -/
def cx (l : BitVec 32) : F .f32 := FloatOps.addf (FloatOps.mulf (col P l) (fb P.str)) (fb P.half)
/-- The box's centre y. -/
def cy (l : BitVec 32) : F .f32 := FloatOps.addf (FloatOps.addf (FloatOps.mulf (row P l) (fb P.str)) (fb P.half)) (fb d)
/-- One step of the width's selection: the word `b` where the box is of kind `n`, otherwise what was there. -/
def pick (l n b : BitVec 32) (x : F .f32) : F .f32 := Scalar.select (FloatOps.cmpf .oeq (kind (F := F) l) (fb n)) (fb b) x
/-- The box's width. -/
def bw (l : BitVec 32) : F .f32 :=
  pick l 0x00000000#32 P.w0 (pick l 0x3F800000#32 P.w1 (pick l 0x40000000#32 P.w2 (pick l 0x40400000#32 P.w3
    (pick l 0x40800000#32 P.w4 (pick l 0x40A00000#32 P.w5 (pick l 0x40C00000#32 P.w6 (pick l 0x40E00000#32 P.w7 (fb P.w8))))))))
/-- Which of the three shapes the box has. -/
def form (l : BitVec 32) : F .f32 := FloatOps.floor (FloatOps.mulf (FloatOps.addf (kind l) (fb 0x3F000000#32)) (fb 0x3EAAAAAB#32))
/-- The box's height: the width times the shape's factor. -/
def bh (l : BitVec 32) : F .f32 := FloatOps.mulf (bw P l)
  (Scalar.select (FloatOps.cmpf .oeq (form (F := F) l) (fb 0x00000000#32)) (fb 0x40000000#32)
    (Scalar.select (FloatOps.cmpf .oeq (form (F := F) l) (fb 0x3F800000#32)) (fb 0x3F800000#32) (fb 0x3F000000#32)))
/-- Whether the row `j` of the table is about x: rows 0 and 2. -/
def even (j : BitVec 32) : BitVec 1 := IntOp.cmpi .eq (IntOp.andi j 1#32) 0#32
/-- Whether the row `j` of the table is one of the first two. -/
def low (j : BitVec 32) : BitVec 1 := IntOp.cmpi .slt j 2#32
/-- The box's centre along the row's axis. -/
def ctr (j l : BitVec 32) : F .f32 := Scalar.select (even j) (cx P l) (cy P d l)
/-- Half the box's extent along the row's axis. -/
def ext (j l : BitVec 32) : F .f32 :=
  Scalar.select (even j) (FloatOps.mulf (bw P l) (fb 0x3F000000#32)) (FloatOps.mulf (bh P l) (fb 0x3F000000#32))
/-- What row `j`, lane `l` of a chunk of the first table holds. -/
def val1 (j l : BitVec 32) : F .f32 := Scalar.select (low j) (ctr P d j l) (Scalar.select (even j) (bw P l) (bh P l))
/-- What row `j`, lane `l` of a chunk of the second table holds. -/
def val2 (j l : BitVec 32) : F .f32 :=
  FloatOps.addf (ctr P d j l) (Scalar.select (low j) (FloatOps.subf (fb 0x00000000#32) (ext P j l)) (ext P j l))

end Values

/-- The tables' shape. -/
abbrev Tab : Shape := ⟨2, ![4, 48960]⟩

/-- The whole table whose chunks hold `val`. -/
def table (val : Level → BitVec 32 → BitVec 32 → BitVec 32 → F .f32) (i : Tab.Idx) : F .f32 :=
  val (lvl ((i 1).val / 1152)) (dy ((i 1).val / 1152)) (BitVec.ofNat 32 (i 0).val) (BitVec.ofNat 32 ((i 1).val % 1152))

/-- A write agrees with the table whose chunks hold `val`: each of its values is the table's at the place it is written to. -/
def Holds (val : Level → BitVec 32 → BitVec 32 → BitVec 32 → F .f32) (p : View.Piece (Elt F) Tab .f32) : Prop :=
  ∀ x, p.2 x = table val (p.1.emb x)

/-- A write of one chunk agrees with the table, where its values are `val` at the chunk's own level and start, the row and the
    lane counted from zero. -/
theorem holds_chunk (val : Level → BitVec 32 → BitVec 32 → BitVec 32 → F .f32) (off : ℕ) (size : Fin 2 → ℕ)
    (inb : ∀ a, (![0, off] : Fin 2 → ℕ) a + size a ≤ Tab.size a)
    (pay : (Rect.unit (s := Tab) ![0, off] size inb).shape.Idx → F .f32) (P : Level) (d : BitVec 32)
    (hP : lvl (off / 1152) = P) (hd : dy (off / 1152) = d) (hoff : off % 1152 = 0) (hs : size 1 ≤ 1152)
    (h : ∀ x, pay x = val P d (BitVec.ofNat 32 (0 * size 0 + (x 0).val)) (BitVec.ofNat 32 (0 * size 1 + (x 1).val))) :
    Holds val ⟨Rect.unit (s := Tab) ![0, off] size inb, pay⟩ := by
  intro x
  have h0 : (((Rect.unit (s := Tab) ![0, off] size inb).emb x) 0).val = (x 0).val := by
    show 0 + 1 * (x 0).val = _; omega
  have h1 : (((Rect.unit (s := Tab) ![0, off] size inb).emb x) 1).val = off + (x 1).val := by
    show off + 1 * (x 1).val = _; omega
  have hx : (x 1).val < size 1 := (x 1).isLt
  have hdiv : (off + (x 1).val) / 1152 = off / 1152 := by omega
  have hmod : (off + (x 1).val) % 1152 = (x 1).val := by omega
  show pay x = table val _
  rw [h x, table, h0, h1, hdiv, hmod, hP, hd, Nat.zero_mul, Nat.zero_mul, Nat.zero_add, Nat.zero_add]

/-- Whether the writes, newest first, fill every column from `lo` up to `hi`: the newest reaches `hi`, and the others fill
    the columns up to where it starts. -/
def fills {α : Type} (col wid : α → ℕ) : List α → ℕ → ℕ → Bool
  | [], lo, hi => decide (hi ≤ lo)
  | p :: L, lo, hi => decide (hi ≤ lo) || (decide (hi ≤ col p + wid p) && fills col wid L lo (col p))

theorem exists_of_fills {α : Type} (col wid : α → ℕ) : ∀ (L : List α) (lo hi n : ℕ), fills col wid L lo hi = true → lo ≤ n → n < hi →
    ∃ p ∈ L, col p ≤ n ∧ n < col p + wid p
  | [], lo, hi, n, h, h1, h2 => by simp [fills] at h; omega
  | p :: L, lo, hi, n, h, h1, h2 => by
    simp only [fills, Bool.or_eq_true, Bool.and_eq_true, decide_eq_true_eq] at h
    rcases h with h | ⟨h3, h4⟩
    · omega
    · by_cases hn : col p ≤ n
      · exact ⟨p, List.mem_cons_self, hn, by omega⟩
      · obtain ⟨q, hq, hq'⟩ := exists_of_fills col wid L lo (col p) n h4 h1 (by omega)
        exact ⟨q, List.mem_cons_of_mem _ hq, hq'⟩

/-- A write of whole columns: all four rows, with no gaps. -/
def Cols (p : View.Piece (Elt F) Tab .f32) : Prop :=
  p.1.off 0 = 0 ∧ p.1.size 0 = 4 ∧ p.1.stride 0 = 1 ∧ p.1.stride 1 = 1

/-- Writes of whole columns that fill the columns from `lo` up to `hi` write every place there. -/
theorem cover_of_fills (L : List (View.Piece (Elt F) Tab .f32)) (lo hi : ℕ) (hc : ∀ p ∈ L, Cols p)
    (hf : fills (fun p : View.Piece (Elt F) Tab .f32 => p.1.off 1) (fun p => p.1.size 1) L lo hi = true) (y : Tab.Idx)
    (h1 : lo ≤ (y 1).val) (h2 : (y 1).val < hi) : ∃ p ∈ L, y ∈ p.1.set := by
  obtain ⟨p, hp, ha, hb⟩ := exists_of_fills _ _ L lo hi _ hf h1 h2
  obtain ⟨c0, c1, c2, c3⟩ := hc p hp
  refine ⟨p, hp, (LoadRect.mem_set _).mpr fun a => ?_⟩
  have hy0 : (y 0).val < 4 := (y 0).isLt
  match a with
  | 0 => exact ⟨(y 0).val, by rw [c1]; exact hy0, by rw [c0, c2]; omega⟩
  | 1 => exact ⟨(y 1).val - p.1.off 1, by omega, by rw [c3]; omega⟩

end Cert.Anchors

end
-- ==== Proof.IdealRun.lean ====
/- The idealized kernel body run once: what its two results in HBM hold afterwards.

   The body stores every chunk of two tables into VMEM and copies the tables out in seven blocks of columns each, every block
   on a counter of its own, all drained at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Anchors
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The two tables in VMEM, -/
abbrev s1M : Memref sig .tc .vmem S4x48960 .f32 := Memref.whole cc0_scratch0
abbrev s2M : Memref sig .tc .vmem S4x48960 .f32 := Memref.whole cc0_scratch1
/-- and the two results in HBM. -/
abbrev o1M : Memref sig .tc .hbm S4x48960 .f32 := Memref.whole main_v0_0
abbrev o2M : Memref sig .tc .hbm S4x48960 .f32 := Memref.whole main_v0_1

/-- The contents of a memref's buffer on core `c`. -/
abbrev MBuf (c : Dev nD) {sp S e} (M : Memref sig .tc sp S e) : Type := Buf (Elt F) (M.view.loc (c : Thread nD τ))

/-- A memref's buffer, whole, at contents `f`. -/
abbrev pt (c : Dev nD) {sp S e} (M : Memref sig .tc sp S e) (f : MBuf (F := F) c M) : sProp 𝕄 :=
  M.view.loc (c : Thread nD τ) ↦{fullShare} f

/-- The fourteen counters of the copies out, each at zero. -/
abbrev counters (c : Dev nD) : sProp 𝕄 :=
  iprop(semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0)

/-- Pieces of one table: what a run of writes through it leaves, newest first. -/
abbrev Pieces : Type := List (View.Piece (Elt F) S4x48960 .f32)

set_option maxHeartbeats 4000000 in
set_option sl_exec.dmaWindow true in
set_option sl_exec.rejoinFuel 200 in
/-- The body's run, from any contents of its four buffers and its counters at zero: each result ends as its old contents
    overwritten by the blocks copied into it (found by the run), and the counters are at zero again. -/
def bodyRun (c : Dev nD) : { L : (MBuf (F := F) c s1M → Pieces (F := F)) × (MBuf (F := F) c s2M → Pieces (F := F)) //
    ∀ (f1 : MBuf (F := F) c o1M) (f2 : MBuf (F := F) c o2M) (g1 : MBuf (F := F) c s1M) (g2 : MBuf (F := F) c s2M)
      (W : Waits sig Unit) (K : PUnit → sProp 𝕄),
        iprop(pt c o1M f1 ∗ pt c o2M f2 ∗ pt c s1M g1 ∗ pt c s2M g2 ∗ counters c ∗ owes (c : Thread nD τ) 0 W
            ∗ ((pt c o1M (o1M.view.writes (Elt F) f1 (L.1 g1)) ∗ pt c o2M (o2M.view.writes (Elt F) f2 (L.2 g2))
                ∗ (∃ h, pt c s1M h) ∗ (∃ h, pt c s2M h) ∗ counters c ∗ ∃ W', owes (c : Thread nD τ) 0 W') -∗ K PUnit.unit))
          ⊢ wp frame (wpE (defs₀ (F := F)) Variants.none c none) Set.univ
              (cc0__anchor_kernel o1M (Memref.isWhole_whole _) o2M (Memref.isWhole_whole _) s1M (Memref.isWhole_whole _)
                s2M (Memref.isWhole_whole _) cc0_scratch2) K } := by
  refine ⟨(?_, ?_), ?_⟩
  case refine_3 =>
    intro f1 f2 g1 g2 W K
    simp only [cc0__anchor_kernel_eq_skeleton]; unfold cc0__anchor_kernel_skel
    iintro ⟨Ho1, Ho2, Hs1, Hs2, ⟨Hq0, Hq1, Hq2, Hq3, Hq4, Hq5, Hq6, Hq7, Hq8, Hq9, Hq10, Hq11, Hq12, Hq13⟩, HW, Hk⟩
    sl_exec
    sl_step
    iapply Hk
    isplitl [Ho1]; · iexact Ho1
    isplitl [Ho2]; · iexact Ho2
    isplitl [Hs1]; · iexists _; iexact Hs1
    isplitl [Hs2]; · iexists _; iexact Hs2
    isplitl [Hq0 Hq1 Hq2 Hq3 Hq4 Hq5 Hq6 Hq7 Hq8 Hq9 Hq10 Hq11 Hq12 Hq13]
    · iframe Hq0 Hq1 Hq2 Hq3 Hq4 Hq5 Hq6 Hq7 Hq8 Hq9 Hq10 Hq11 Hq12 Hq13
    iexists _; iexact HW

end Cert.KernelIdeal.Hand

end
-- ==== Proof.IdealTables.lean ====
/- What the body's stores and copies leave: every one of them agrees with the tables of Anchors.lean. -/
module

public import proofs.«01_k».proof.Proof.IdealRun
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen Cert.Anchors

variable {F : FTy → Type} [FloatOps F]

/-- A store of one chunk agrees with the table, where its payload is a cast, to the shape it has, of values that are `val` at the
    chunk's own level and start. -/
theorem holds_store (val : Level → BitVec 32 → BitVec 32 → BitVec 32 → F .f32) (wd off : ℕ) {inb} {P : Level} {d : BitVec 32}
    {pay v : (⟨2, ![4, wd]⟩ : Shape).Idx → F .f32} {h : (⟨2, ![4, wd]⟩ : Shape).ShapeCasts ⟨2, ![4, wd]⟩}
    (hw : wd ≤ 1152) (hoff : off % 1152 = 0) (hP : lvl (off / 1152) = P) (hd : dy (off / 1152) = d)
    (e : pay = shapeCast ⟨2, ![4, wd]⟩ v h)
    (hv : ∀ x, v x = val P d (BitVec.ofNat 32 (0 * 4 + (x 0).val)) (BitVec.ofNat 32 (0 * wd + (x 1).val))) :
    Holds val ⟨Rect.unit (s := Tab) ![0, off] ![4, wd] inb, pay⟩ :=
  holds_chunk val off ![4, wd] inb pay P d hP hd hoff hw fun x => by rw [e, shapeCast_self]; exact hv x

set_option maxHeartbeats 4000000 in
/-- Every store into the first table in VMEM agrees with the table of centres and sizes. -/
theorem holds1 : ∀ p ∈ (bodyRun.sl.Hs1_43 : Pieces (F := F)), Holds val1 p := by
  simp only [bodyRun.sl.Hs1_43, bodyRun.sl.Hs1_40, bodyRun.sl.Hs1_32, bodyRun.sl.Hs1_24, bodyRun.sl.Hs1_16, bodyRun.sl.Hs1_8,
    bodyRun.sl.Hs1_4, List.forall_mem_cons]
  repeat' apply And.intro
  all_goals first
    | exact List.forall_mem_nil _
    | exact holds_store val1 1152 _ (by decide) rfl rfl rfl rfl fun _ => rfl
    | exact holds_store val1 576 _ (by decide) rfl rfl rfl rfl fun _ => rfl

set_option maxHeartbeats 4000000 in
/-- Every store into the second table in VMEM agrees with the table of corners. -/
theorem holds2 : ∀ p ∈ (bodyRun.sl.Hs2_43 : Pieces (F := F)), Holds val2 p := by
  simp only [bodyRun.sl.Hs2_43, bodyRun.sl.Hs2_40, bodyRun.sl.Hs2_32, bodyRun.sl.Hs2_24, bodyRun.sl.Hs2_16, bodyRun.sl.Hs2_8,
    bodyRun.sl.Hs2_4, List.forall_mem_cons]
  repeat' apply And.intro
  all_goals first
    | exact List.forall_mem_nil _
    | exact holds_store val2 1152 _ (by decide) rfl rfl rfl rfl fun _ => rfl
    | exact holds_store val2 576 _ (by decide) rfl rfl rfl rfl fun _ => rfl

/-- Of stores into a table in VMEM, every one of whole columns and in agreement with a table: where all but the newest `n` fill the
    columns from `lo` up to `hi`, a block of those columns read back after them is that table's block. -/
theorem holds_block (val : Level → BitVec 32 → BitVec 32 → BitVec 32 → F .f32) {c : Dev nD} (M : Memref sig .tc .vmem S4x48960 .f32)
    (g : MBuf (F := F) c M) (L : Pieces (F := F)) (n lo wd : ℕ) {inb hs}
    (hL : ∀ p ∈ L, Holds val p) (hc : ∀ p ∈ L, Cols p)
    (pay : (Rect.unit (s := Tab) ![0, lo] ![4, wd] inb).shape.Idx → F .f32)
    (hf : fills (fun p : View.Piece (Elt F) Tab .f32 => p.1.off 1) (fun p => p.1.size 1) (L.drop n) lo (lo + wd) = true)
    (e : pay = View.read (Elt F) (M.slice (Rect.unit (s := S4x48960) ![0, lo] ![4, wd] inb) hs).view
      (M.view.writes (Elt F) g (L.drop n))) :
    Holds val ⟨Rect.unit (s := Tab) ![0, lo] ![4, wd] inb, pay⟩ := by
  intro x
  subst e
  refine View.read_writes_apply_of_pieces M.view g (table val) _ (fun p hp => hL p (List.mem_of_mem_drop hp)) _
    (cover_of_fills _ lo (lo + wd) (fun p hp => hc p (List.mem_of_mem_drop hp)) hf _ ?_ ?_)
  · show lo ≤ lo + 1 * (x 1).val; omega
  · have hx : (x 1).val < wd := (x 1).isLt
    show lo + 1 * (x 1).val < lo + wd; omega

/-- Copies into a result in HBM that agree with a table and fill all its columns leave the table there. -/
theorem eq_table (val : Level → BitVec 32 → BitVec 32 → BitVec 32 → F .f32) {c : Dev nD} (M : Memref sig .tc .hbm S4x48960 .f32)
    (f : MBuf (F := F) c M) (L : Pieces (F := F))
    (hL : ∀ p ∈ L, Holds val p) (hc : ∀ p ∈ L, Cols p)
    (hf : fills (fun p : View.Piece (Elt F) Tab .f32 => p.1.off 1) (fun p => p.1.size 1) L 0 48960 = true) :
    M.view.read (Elt F) (M.view.writes (Elt F) f L) = table val :=
  funext fun y => View.read_writes_apply_of_pieces M.view f (table val) L hL y
    (cover_of_fills L 0 48960 hc hf y (Nat.zero_le _) (y 1).isLt)

/-- Every store into the first table in VMEM is one of whole columns. -/
theorem cols1 : ∀ p ∈ (bodyRun.sl.Hs1_43 : Pieces (F := F)), Cols p := by
  simp only [bodyRun.sl.Hs1_43, bodyRun.sl.Hs1_40, bodyRun.sl.Hs1_32, bodyRun.sl.Hs1_24, bodyRun.sl.Hs1_16, bodyRun.sl.Hs1_8,
    bodyRun.sl.Hs1_4, List.forall_mem_cons]
  repeat' apply And.intro
  all_goals first
    | exact List.forall_mem_nil _
    | rfl

/-- What the body leaves in its first result: the table, whatever was there before. -/
theorem out1 (c : Dev nD) (f : MBuf (F := F) c o1M) (g : MBuf (F := F) c s1M) :
    o1M.view.writes (Elt F) f ((bodyRun (F := F) c).1.1 g) = table val1 := by
  generalize hL : (bodyRun (F := F) c).1.1 g = L
  refine eq_table val1 o1M f L ?_ ?_ ?_ <;> subst hL
  · simp only [bodyRun, List.forall_mem_cons]
    refine ⟨?_, ?_, ?_, ?_, ?_, ?_, ?_, List.forall_mem_nil _⟩
    · exact holds_block val1 s1M g bodyRun.sl.Hs1_43 0 46080 2880 holds1 cols1 _ rfl rfl
    · exact holds_block val1 s1M g bodyRun.sl.Hs1_43 3 36864 9216 holds1 cols1 _ rfl rfl
    · exact holds_block val1 s1M g bodyRun.sl.Hs1_43 11 27648 9216 holds1 cols1 _ rfl rfl
    · exact holds_block val1 s1M g bodyRun.sl.Hs1_43 19 18432 9216 holds1 cols1 _ rfl rfl
    · exact holds_block val1 s1M g bodyRun.sl.Hs1_43 27 9216 9216 holds1 cols1 _ rfl rfl
    · exact holds_block val1 s1M g bodyRun.sl.Hs1_43 35 4608 4608 holds1 cols1 _ rfl rfl
    · exact holds_block val1 s1M g bodyRun.sl.Hs1_43 39 0 4608 holds1 cols1 _ rfl rfl
  · simp only [bodyRun, List.forall_mem_cons]
    repeat' apply And.intro
    all_goals first
      | exact List.forall_mem_nil _
      | rfl
  · simp only [bodyRun]; rfl

/-- Every store into the second table in VMEM is one of whole columns. -/
theorem cols2 : ∀ p ∈ (bodyRun.sl.Hs2_43 : Pieces (F := F)), Cols p := by
  simp only [bodyRun.sl.Hs2_43, bodyRun.sl.Hs2_40, bodyRun.sl.Hs2_32, bodyRun.sl.Hs2_24, bodyRun.sl.Hs2_16, bodyRun.sl.Hs2_8,
    bodyRun.sl.Hs2_4, List.forall_mem_cons]
  repeat' apply And.intro
  all_goals first
    | exact List.forall_mem_nil _
    | rfl

/-- What the body leaves in its second result: the table, whatever was there before. -/
theorem out2 (c : Dev nD) (f : MBuf (F := F) c o2M) (g : MBuf (F := F) c s2M) :
    o2M.view.writes (Elt F) f ((bodyRun (F := F) c).1.2 g) = table val2 := by
  generalize hL : (bodyRun (F := F) c).1.2 g = L
  refine eq_table val2 o2M f L ?_ ?_ ?_ <;> subst hL
  · simp only [bodyRun, List.forall_mem_cons]
    refine ⟨?_, ?_, ?_, ?_, ?_, ?_, ?_, List.forall_mem_nil _⟩
    · exact holds_block val2 s2M g bodyRun.sl.Hs2_43 0 46080 2880 holds2 cols2 _ rfl rfl
    · exact holds_block val2 s2M g bodyRun.sl.Hs2_43 3 36864 9216 holds2 cols2 _ rfl rfl
    · exact holds_block val2 s2M g bodyRun.sl.Hs2_43 11 27648 9216 holds2 cols2 _ rfl rfl
    · exact holds_block val2 s2M g bodyRun.sl.Hs2_43 19 18432 9216 holds2 cols2 _ rfl rfl
    · exact holds_block val2 s2M g bodyRun.sl.Hs2_43 27 9216 9216 holds2 cols2 _ rfl rfl
    · exact holds_block val2 s2M g bodyRun.sl.Hs2_43 35 4608 4608 holds2 cols2 _ rfl rfl
    · exact holds_block val2 s2M g bodyRun.sl.Hs2_43 39 0 4608 holds2 cols2 _ rfl rfl
  · simp only [bodyRun, List.forall_mem_cons]
    repeat' apply And.intro
    all_goals first
      | exact List.forall_mem_nil _
      | rfl
  · simp only [bodyRun]; rfl

end Cert.KernelIdeal.Hand

end
-- ==== Proof.IdealFrame.lean ====
/- The program's run: the two results it returns are the transposed tables, its arguments end as they were, and every counter
   reads zero at the end. -/
module

public import proofs.«01_k».proof.Proof.IdealTables
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Anchors

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers and counters the body uses -/

/-- The body's fourteen counters. -/
abbrev osem0 : Fin 14 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 14 → SemLoc sig) j
theorem ownSemFacts0 : Pipeline.OwnSemFacts (cfg0.spec) osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = counters c := by
  rw [Pipeline.ownSems0_eq_of_list c osem0 [0, 1, 2, 3, 4, 5, 6, 7, 8, 9, 10, 11, 12, 13] (by decide) (by decide)]; rfl

/-- The body reads no buffer of HBM, -/
def H0 : Finset (Ref sig .tc) := ∅
theorem H0_sub : H0 ⊆ Pipeline.restRefs sig (cfg0.spec) := by decide
/-- and writes the two results. -/
def R0 : Finset (Ref sig .tc) := {main_v0_0, main_v0_1}
theorem R0_sub : R0 ⊆ Pipeline.restRefs sig (cfg0.spec) \ H0 := by decide

theorem H0_eq (c : Dev nD) (U : (b : Ref sig .tc) → Buf (Elt F) ((c : Thread nD τ).loc b)) :
    (bigSep H0 (fun b => ((c : Thread nD τ).loc b) ↦{fullShare} U b) : sProp 𝕄) = iprop(emp) := by
  rw [BI.bigSep_eq_bigSepL_of_eq [] (by decide) (by decide)]; rfl
theorem R0_eq (c : Dev nD) (U : (b : Ref sig .tc) → Buf (Elt F) ((c : Thread nD τ).loc b)) :
    (bigSep R0 (fun b => ((c : Thread nD τ).loc b) ↦{fullShare} U b) : sProp 𝕄)
      = iprop(pt c o1M (U main_v0_0) ∗ pt c o2M (U main_v0_1)) := by
  rw [BI.bigSep_eq_bigSepL_of_eq [main_v0_0, main_v0_1] (by decide) (by decide)]; rfl

/-- The contents after the body: the two tables in the results, everything else as it was. -/
def G (c : Dev nD) : (b : Ref sig .tc) → Buf (Elt F) ((c : Thread nD τ).loc b) :=
  Function.update (Function.update (V m c) main_v0_0 (table val1)) main_v0_1 (table val2)
theorem G_v0_0 (c : Dev nD) : G m c main_v0_0 = table val1 := by
  unfold G
  rw [Function.update_of_ne (by decide), Function.update_self]
theorem G_v0_1 (c : Dev nD) : G m c main_v0_1 = table val2 := by
  unfold G
  rw [Function.update_self]

/-- What the body is handed and hands back, its results at `U`. -/
def Φ (U : (c : Dev nD) → (b : Ref sig .tc) → Buf (Elt F) ((c : Thread nD τ).loc b)) (c : Dev nD) : sProp 𝕄 :=
  Pipeline.ΦDRV osem0 (cfg0.spec) H0 R0 (V m) U c

theorem Φ_eq (U : (c : Dev nD) → (b : Ref sig .tc) → Buf (Elt F) ((c : Thread nD τ).loc b)) (c : Dev nD) :
    Φ m U c = iprop(((∃ f, pt c s1M f) ∗ (∃ f, pt c s2M f)) ∗ counters c ∗ emp ∗ pt c o1M (U c main_v0_0) ∗ pt c o2M (U c main_v0_1)) := by
  unfold Φ Pipeline.ΦDRV
  rw [scopedRest0_eq, ownSems_eq, H0_eq, R0_eq]

/-! ## The body at its one point -/

def dats (_ : Fin 1) (c : Dev nD) : Dat τ (Elt F) Unit ℕ (Pipeline.UD sig nD τ) ℕ cfg0 c where
  A w := V m c (Pipeline.arrRef (cfg0.spec) w)
  after w _ := w.elim0
  Φ t := if t.val = 0 then Φ m (V m) c else Φ m (G m) c
  q _ := fullShare
  owed _ := 0

theorem A_eq (c : Dev nD) (w : Fin cfg0.W) : (dats m 0 c).A w = V m c (Pipeline.arrRef (cfg0.spec) w) := by
  dsimp only [dats]
theorem Φ_first (c : Dev nD) (t : Fin cfg0.N) : (dats m 0 c).Φ t.castSucc = Φ m (V m) c := by
  have h : t.castSucc.val = 0 := by rw [fin_N0 t]; rfl
  dsimp only [dats]; rw [if_pos h]
theorem Φ_last (c : Dev nD) (t : Fin cfg0.N) : (dats m 0 c).Φ t.succ = Φ m (G m) c := by
  have h : t.succ.val ≠ 0 := by rw [Fin.val_succ]; omega
  dsimp only [dats]; rw [if_neg h]

theorem noWindow (X : Fin cfg0.W → sProp 𝕄) : bigSep Finset.univ X = iprop(emp) := by
  rw [show (Finset.univ : Finset (Fin cfg0.W)) = ∅ from rfl]; rfl

theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
        (fun _ => iprop((dats m 0 c).Φ t.succ ∗ (dats m 0 c).owesAt () t.succ ∗ emp)) := by
  unfold bodyAt0
  rw [Φ_first, Φ_last, Φ_eq, Φ_eq, G_v0_0, G_v0_1]
  unfold Dat.owesAt Pipeline.owesWithin
  rw [show (dats m 0 c).owed t.castSucc = 0 from rfl, show (dats m 0 c).owed t.succ = 0 from rfl]
  iintro ⟨⟨⟨⟨%g1, Hs1⟩, ⟨%g2, Hs2⟩⟩, Hq, -, Ho1, Ho2⟩, ⟨%W, -, HW⟩, -⟩
  iapply ((bodyRun (F := F) c).2 (V m c main_v0_0) (V m c main_v0_1) g1 g2 W _)
  isplitl [Ho1]; · iexact Ho1
  isplitl [Ho2]; · iexact Ho2
  isplitl [Hs1]; · iexact Hs1
  isplitl [Hs2]; · iexact Hs2
  isplitl [Hq]; · iexact Hq
  isplitl [HW]; · iexact HW
  rw [out1, out2]
  iintro ⟨Ho1, Ho2, Hs1, Hs2, Hq, ⟨%W', HW'⟩⟩
  isplitl [Ho1 Ho2 Hs1 Hs2 Hq]
  · isplitl [Hs1 Hs2]
    · isplitl [Hs1]; · iexact Hs1
      iexact Hs2
    isplitl [Hq]; · iexact Hq
    isplitr [Ho1 Ho2]; · iempintro
    isplitl [Ho1]; · iexact Ho1
    iexact Ho2
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [noWindow, noWindow, defs₀_row]
  exact triple_restated (sound_body m c t) rfl .rfl fun _ => .rfl

/-! ## The run -/

set_option maxHeartbeats 800000 in
/-- The program is its one kernel call followed by the two transposes. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The contents of core `c`'s buffers after the call and the two transposes. -/
abbrev fin (c : Dev nD) : Valuation τ sig (Elt F) :=
  StableHlo.after (List.flatten [hostOps1]) (Pipeline.withArrays (cfg0.spec) c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      ∀ b ∈ Pipeline.restRefs sig (cfg0.spec), r.2.mem ((c.tc : Thread nD τ).loc b) = fin m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m Variants.none) (hA := A_eq m)
    (hin := fun c => by rw [show (dats m 0 c).Φ 0 = Φ m (V m) c from rfl]; exact .rfl)
    (hout := fun c => by
      rw [show (dats m 0 c).Φ (Fin.last cfg0.N) = Φ m (G m) c from Φ_last m c t0_0]; exact .rfl)
    (hQ' := fun r h => ⟨fun c => (h.1 c).2, h.2⟩)

/-! ## What the run leaves -/

theorem fin_v1 (c : Dev nD) : fin m c (Proc.devRef .tc main_v1)
    = transpose S48960x4 [1, 0] (table val1 : S4x48960.Idx → F .f32) transposes_S4x48960_S48960x4_1_0 := by
  simp only [fin, List.flatten_cons, List.flatten_nil, List.append_nil, StableHlo.after_cons, StableHlo.after_nil]
  rw [StableHlo.unary_result_ne _ _ _ _ _ _ (by decide), StableHlo.unary_result,
    Pipeline.withArrays_of_ne _ c _ _ main_v0_0 (by exact (by decide : ∀ w, Pipeline.arrRef (cfg0.spec) w ≠ main_v0_0)),
    Pipeline.withR_of_mem _ _ _ _ main_v0_0 (by decide), G_v0_0]

theorem fin_v2 (c : Dev nD) : fin m c (Proc.devRef .tc main_v2)
    = transpose S48960x4 [1, 0] (table val2 : S4x48960.Idx → F .f32) transposes_S4x48960_S48960x4_1_0 := by
  simp only [fin, List.flatten_cons, List.flatten_nil, List.append_nil, StableHlo.after_cons, StableHlo.after_nil]
  rw [StableHlo.unary_result, StableHlo.unary_result_ne _ _ _ _ _ _ (by decide),
    Pipeline.withArrays_of_ne _ c _ _ main_v0_1 (by exact (by decide : ∀ w, Pipeline.arrRef (cfg0.spec) w ≠ main_v0_1)),
    Pipeline.withR_of_mem _ _ _ _ main_v0_1 (by decide), G_v0_1]

/-- A buffer neither the call nor a transpose writes is as launched. -/
theorem fin_other (c : Dev nD) (b : Ref sig .tc) (h1 : b ≠ main_v1) (h2 : b ≠ main_v2) (hR : b ∉ R0)
    (hw : ∀ w, Pipeline.arrRef (cfg0.spec) w ≠ b) : fin m c (Proc.devRef .tc b) = m ((c : Thread nD τ).loc b) := by
  simp only [fin, List.flatten_cons, List.flatten_nil, List.append_nil, StableHlo.after_cons, StableHlo.after_nil]
  rw [StableHlo.unary_result_ne _ _ _ _ _ _ h2, StableHlo.unary_result_ne _ _ _ _ _ _ h1,
    Pipeline.withArrays_of_ne _ c _ _ b hw, Pipeline.withR_of_not_mem _ _ _ _ b hR]
  rfl

/-- From any memory the program runs to its end: it returns the transposed tables, its arguments end unchanged, and every counter
    reads zero. -/
theorem run : θ_run defs (onTc (τ := τ) (main (F := F))) ⟨m, fun _ => 0, ρ⟩ (fun r => (∀ c : Dev nD,
      r.2.mem ((c.tc : Thread nD τ).loc main_v1)
          = transpose S48960x4 [1, 0] (table val1 : S4x48960.Idx → F .f32) transposes_S4x48960_S48960x4_1_0
      ∧ r.2.mem ((c.tc : Thread nD τ).loc main_v2)
          = transpose S48960x4 [1, 0] (table val2 : S4x48960.Idx → F .f32) transposes_S4x48960_S48960x4_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_v1 (Pipeline.mem_restRefs_of main_v1 (by decide) (by decide))).trans (fin_v1 m c),
     (h.1 c main_v2 (Pipeline.mem_restRefs_of main_v2 (by decide) (by decide))).trans (fin_v2 m c),
     (h.1 c main_arg0 (Pipeline.mem_restRefs_of main_arg0 (by decide) (by decide))).trans
       (fin_other m c main_arg0 (by decide) (by decide) (by decide) (by decide)),
     (h.1 c main_arg1 (Pipeline.mem_restRefs_of main_arg1 (by decide) (by decide))).trans
       (fin_other m c main_arg1 (by decide) (by decide) (by decide) (by decide)),
     (h.1 c main_arg2 (Pipeline.mem_restRefs_of main_arg2 (by decide) (by decide))).trans
       (fin_other m c main_arg2 (by decide) (by decide) (by decide) (by decide)),
     (h.1 c main_arg3 (Pipeline.mem_restRefs_of main_arg3 (by decide) (by decide))).trans
       (fin_other m c main_arg3 (by decide) (by decide) (by decide) (by decide))⟩, h.2⟩) (run_main m ρ)

end Cert.KernelIdeal.Hand

end
-- ==== Proof.Numbers.lean ====
/- What the kernel's scalars are over the reals: the lane's cell, kind, row and column, the box's centre and its two sides. -/
module

public import proofs.«01_k».proof.Proof.Anchors
public import Idealize.ShloMosaic.Lib.Pointwise

@[expose] public section

noncomputable section

namespace Cert.Anchors

open Idealize.ShloMosaic

/-! ## Float words -/

/-- The number a nonnegative finite float word stands for. -/
def num (b : BitVec 32) : ℝ :=
  if b.toNat / 2 ^ 23 = 0 then ((b.toNat % 2 ^ 23 : ℕ) : ℝ) * (2 : ℝ) ^ (-149 : ℤ)
  else ((2 ^ 23 + b.toNat % 2 ^ 23 : ℕ) : ℝ) * (2 : ℝ) ^ (((b.toNat / 2 ^ 23 : ℕ) : ℤ) - 150)

/-- A nonnegative finite word stands for its number. -/
theorem fb_num (b : BitVec 32) (h : b.toNat < 0x7F800000) : (fb b : Ideal .f32) = ((num b : ℝ) : EReal) := by
  have h1 : (b.extractLsb' 31 1 == 1#1) = false := by
    rw [beq_eq_false_iff_ne]
    intro e
    have := congrArg BitVec.toNat e
    rw [BitVec.extractLsb'_toNat, Nat.shiftRight_eq_div_pow] at this
    simp at this
    omega
  have h2 : (b.extractLsb' 23 8).toNat = b.toNat / 2 ^ 23 := by
    rw [BitVec.extractLsb'_toNat, Nat.shiftRight_eq_div_pow]; omega
  have h3 : (b.extractLsb' 0 23).toNat = b.toNat % 2 ^ 23 := by
    rw [BitVec.extractLsb'_toNat, Nat.shiftRight_eq_div_pow]; omega
  show Ideal.ieee 8 23 b = _
  unfold Ideal.ieee num
  simp only [Nat.reduceAdd, h1, h2, h3, Bool.false_eq_true, if_false]
  rw [if_neg (by omega)]
  by_cases he : b.toNat / 2 ^ 23 = 0
  · rw [if_pos he, if_pos he]
    norm_num
  · rw [if_neg he, if_neg he, one_mul, show (((b.toNat / 2 ^ 23 : ℕ) : ℤ) - (2 ^ (8 - 1) - 1) - ((23 : ℕ) : ℤ))
      = ((b.toNat / 2 ^ 23 : ℕ) : ℤ) - 150 by push_cast; omega]

/-- The widths' words, in order of the box's kind. -/
def width (P : Level) (a : ℕ) : BitVec 32 := [P.w0, P.w1, P.w2, P.w3, P.w4, P.w5, P.w6, P.w7, P.w8].getD a 0#32

/-- A level whose constants are those of a `w × w` grid with stride `s`. -/
structure Good (P : Level) (w s : ℕ) : Prop where
  pos : 0 < w
  inv : num P.inv = 1 / w
  wid : num P.wid = w
  str : num P.str = s
  half : num P.half = s / 2
  small : ∀ b ∈ [P.inv, P.wid, P.str, P.half, P.w0, P.w1, P.w2, P.w3, P.w4, P.w5, P.w6, P.w7, P.w8], b.toNat < 0x7F800000

theorem good0 : Good level0 64 8 where
  pos := by decide
  inv := by norm_num [level0, num]
  wid := by norm_num [level0, num]
  str := by norm_num [level0, num]
  half := by norm_num [level0, num]
  small := by simp [level0]
theorem good1 : Good level1 32 16 where
  pos := by decide
  inv := by norm_num [level1, num]
  wid := by norm_num [level1, num]
  str := by norm_num [level1, num]
  half := by norm_num [level1, num]
  small := by simp [level1]
theorem good2 : Good level2 16 32 where
  pos := by decide
  inv := by norm_num [level2, num]
  wid := by norm_num [level2, num]
  str := by norm_num [level2, num]
  half := by norm_num [level2, num]
  small := by simp [level2]
theorem good3 : Good level3 8 64 where
  pos := by decide
  inv := by norm_num [level3, num]
  wid := by norm_num [level3, num]
  str := by norm_num [level3, num]
  half := by norm_num [level3, num]
  small := by simp [level3]

/-! ## The lane's cell and kind -/

/-- The lane number as a real. -/
theorem lane_eq (l : ℕ) (h : l < 1152) : lane (F := Ideal) (BitVec.ofNat 32 l) = ((l : ℝ) : EReal) := by
  show (((BitVec.ofNat 32 l).toInt : ℝ) : EReal) = _
  rw [BitVec.toInt_eq_toNat_of_lt (by rw [BitVec.toNat_ofNat]; omega), BitVec.toNat_ofNat, Nat.mod_eq_of_lt (by omega)]
  norm_cast

/-- Rounding down at the ideal values. -/
theorem floor_eq (x : ℝ) (n : ℕ) (h1 : (n : ℝ) ≤ x) (h2 : x < n + 1) :
    FloatOps.floor (F := Ideal) (φ := .f32) ((x : ℝ) : EReal) = ((n : ℝ) : EReal) := by
  show Ideal.liftRound Int.floor ((x : ℝ) : EReal) = _
  rw [Ideal.liftRound_coe, show Int.floor x = (n : ℤ) from Int.floor_eq_iff.mpr ⟨by exact_mod_cast h1, by exact_mod_cast h2⟩]
  norm_cast

/-- The constants the kernel divides by nine and by three with. -/
theorem num_ninth : num 0x3DE38E39#32 = 14913081 / 134217728 := by norm_num [num]
theorem num_third : num 0x3EAAAAAB#32 = 11184811 / 33554432 := by norm_num [num]
theorem num_half : num 0x3F000000#32 = 1 / 2 := by norm_num [num]
theorem num_nine : num 0x41100000#32 = 9 := by norm_num [num]
theorem num_zero : num 0x00000000#32 = 0 := by norm_num [num]
theorem num_one : num 0x3F800000#32 = 1 := by norm_num [num]
theorem num_two : num 0x40000000#32 = 2 := by norm_num [num]

section
variable (q a : ℕ) (hq : q < 128) (ha : a < 9)
include hq ha

/-- Lane `9q + a` is in cell `q`: the constant's error never carries over a whole number. -/
theorem cell_eq : cell (F := Ideal) (BitVec.ofNat 32 (9 * q + a)) = ((q : ℝ) : EReal) := by
  unfold cell
  rw [lane_eq _ (by omega), fb_num _ (by decide), fb_num _ (by decide), num_ninth, num_half]
  have h1 : (q : ℝ) ≤ 127 := by exact_mod_cast (by omega : q ≤ 127)
  have h2 : (a : ℝ) ≤ 8 := by exact_mod_cast (by omega : a ≤ 8)
  have h3 : (0 : ℝ) ≤ q := Nat.cast_nonneg _
  have h4 : (0 : ℝ) ≤ a := Nat.cast_nonneg _
  simp only [Ideal.addf_def, Ideal.mulf_def, ← EReal.coe_add, ← EReal.coe_mul]
  refine floor_eq _ q ?_ ?_ <;> push_cast <;> linarith

/-- … and of kind `a`. -/
theorem kind_eq : kind (F := Ideal) (BitVec.ofNat 32 (9 * q + a)) = ((a : ℝ) : EReal) := by
  unfold kind
  rw [cell_eq q a hq ha, lane_eq _ (by omega), fb_num _ (by decide), num_nine]
  simp only [Ideal.subf_def, Ideal.mulf_def, ← EReal.coe_sub, ← EReal.coe_mul]
  congr 1
  push_cast
  ring

/-- The box's shape: kinds 0 to 2 have the first, 3 to 5 the second, 6 to 8 the third. -/
theorem form_eq : form (F := Ideal) (BitVec.ofNat 32 (9 * q + a)) = (((a / 3 : ℕ) : ℝ) : EReal) := by
  unfold form
  rw [kind_eq q a hq ha, fb_num _ (by decide), fb_num _ (by decide), num_third, num_half]
  simp only [Ideal.addf_def, Ideal.mulf_def, ← EReal.coe_add, ← EReal.coe_mul]
  refine floor_eq _ (a / 3) ?_ ?_ <;> interval_cases a <;> norm_num

end

/-! ## The grid's row and column -/

section
variable {P : Level} {w s : ℕ} (G : Good P w s) (q a : ℕ) (hq : q < 128) (ha : a < 9)
include G hq ha

theorem row_eq : row (F := Ideal) P (BitVec.ofNat 32 (9 * q + a)) = (((q / w : ℕ) : ℝ) : EReal) := by
  unfold row
  rw [cell_eq q a hq ha, fb_num P.inv (G.small _ (by simp)), G.inv]
  simp only [Ideal.mulf_def, ← EReal.coe_mul]
  have hw : (0 : ℝ) < w := by exact_mod_cast G.pos
  refine floor_eq _ (q / w) ?_ ?_
  · rw [mul_one_div, le_div_iff₀ hw]
    exact_mod_cast Nat.div_mul_le_self q w
  · rw [mul_one_div, div_lt_iff₀ hw]
    exact_mod_cast Nat.lt_mul_of_div_lt (Nat.lt_succ_self (q / w)) G.pos

theorem col_eq : col (F := Ideal) P (BitVec.ofNat 32 (9 * q + a)) = (((q % w : ℕ) : ℝ) : EReal) := by
  unfold col
  rw [row_eq G q a hq ha, cell_eq q a hq ha, fb_num P.wid (G.small _ (by simp)), G.wid]
  simp only [Ideal.subf_def, Ideal.mulf_def, ← EReal.coe_sub, ← EReal.coe_mul]
  have h : (q : ℝ) = ((q % w : ℕ) : ℝ) + ((q / w : ℕ) : ℝ) * w := by exact_mod_cast (Nat.mod_add_div' q w).symm
  congr 1
  linarith

theorem cx_eq : cx (F := Ideal) P (BitVec.ofNat 32 (9 * q + a)) = (((((q % w : ℕ) : ℝ) + 1 / 2) * s : ℝ) : EReal) := by
  unfold cx
  rw [col_eq G q a hq ha, fb_num P.str (G.small _ (by simp)), fb_num P.half (G.small _ (by simp)), G.str, G.half]
  simp only [Ideal.addf_def, Ideal.mulf_def, ← EReal.coe_add, ← EReal.coe_mul]
  congr 1
  ring

theorem cy_eq (d : BitVec 32) (hd : d.toNat < 0x7F800000) : cy (F := Ideal) P d (BitVec.ofNat 32 (9 * q + a))
    = (((((q / w : ℕ) : ℝ) + 1 / 2) * s + num d : ℝ) : EReal) := by
  unfold cy
  rw [row_eq G q a hq ha, fb_num P.str (G.small _ (by simp)), fb_num P.half (G.small _ (by simp)), fb_num d hd, G.str, G.half]
  simp only [Ideal.addf_def, Ideal.mulf_def, ← EReal.coe_add, ← EReal.coe_mul]
  congr 1
  ring

/-! ## The box's sides -/

omit G in
/-- One step of the width's selection, at a word that stands for `n`. -/
theorem pick_eq (n : ℕ) (t b : BitVec 32) (ht : t.toNat < 0x7F800000) (hn : num t = n) (x : EReal) :
    pick (F := Ideal) (BitVec.ofNat 32 (9 * q + a)) t b x = if a = n then (fb b : Ideal .f32) else x := by
  unfold pick
  rw [kind_eq q a hq ha, fb_num t ht, hn]
  simp only [Scalar.select, Ideal.cmpf_def, Ideal.cmp]
  by_cases h : a = n
  · simp [h]
  · simp [h]

theorem bw_eq : bw (F := Ideal) P (BitVec.ofNat 32 (9 * q + a)) = ((num (width P a) : ℝ) : EReal) := by
  unfold bw
  rw [pick_eq q a hq ha 0 _ _ (by decide) (by norm_num [num]), pick_eq q a hq ha 1 _ _ (by decide) (by norm_num [num]),
    pick_eq q a hq ha 2 _ _ (by decide) (by norm_num [num]), pick_eq q a hq ha 3 _ _ (by decide) (by norm_num [num]),
    pick_eq q a hq ha 4 _ _ (by decide) (by norm_num [num]), pick_eq q a hq ha 5 _ _ (by decide) (by norm_num [num]),
    pick_eq q a hq ha 6 _ _ (by decide) (by norm_num [num]), pick_eq q a hq ha 7 _ _ (by decide) (by norm_num [num])]
  rw [← fb_num _ (G.small _ (by unfold width; interval_cases a <;> simp))]
  interval_cases a <;> rfl

end

/-- The height over the width of each shape. -/
def tall (a : ℕ) : ℝ := if a / 3 = 0 then 2 else if a / 3 = 1 then 1 else 1 / 2

theorem bh_eq {P : Level} {w s : ℕ} (G : Good P w s) (q a : ℕ) (hq : q < 128) (ha : a < 9) :
    bh (F := Ideal) P (BitVec.ofNat 32 (9 * q + a)) = ((num (width P a) * tall a : ℝ) : EReal) := by
  unfold bh
  rw [bw_eq G q a hq ha, form_eq q a hq ha, fb_num _ (by decide), fb_num _ (by decide), fb_num _ (by decide), fb_num _ (by decide),
    num_zero, num_one, num_two, num_half]
  simp only [Scalar.select, Ideal.cmpf_def, Ideal.cmp, tall]
  by_cases h0 : a / 3 = 0
  · simp [h0]
  · by_cases h1 : a / 3 = 1
    · simp [h1]
    · simp [h0, h1]

end Cert.Anchors

end
-- ==== Proof.Boxes.lean ====
/- The boxes in closed form over the reals, and the kernel's two tables read as these boxes. -/
module

public import proofs.«01_k».proof.Proof.Numbers

@[expose] public section

noncomputable section

namespace Cert.Anchors

open Idealize.ShloMosaic

/-- Box `r` of a level of a `w × w` grid with stride `s`: centre x, centre y, width, height. -/
def box1 (P : Level) (w s r j : ℕ) : ℝ :=
  if j = 0 then (((r / 9 % w : ℕ) : ℝ) + 1 / 2) * s
  else if j = 1 then (((r / 9 / w : ℕ) : ℝ) + 1 / 2) * s
  else if j = 2 then num (width P (r % 9))
  else num (width P (r % 9)) * tall (r % 9)

/-- The same box by its corners: left, top, right, bottom. -/
def box2 (P : Level) (w s r j : ℕ) : ℝ :=
  if j < 2 then box1 P w s r j - box1 P w s r (j + 2) / 2 else box1 P w s r (j - 2) + box1 P w s r j / 2

section
variable {P : Level} {w s : ℕ} (G : Good P w s) (hw : w ∣ 128) (d : BitVec 32) (hd : d.toNat < 0x7F800000) (r : ℕ)
  (hdr : num d = (s * (128 / w) * (r / 1152) : ℕ))
include G hw hd hdr

/-- The kernel's centre along x and along y, in the chunk box `r` falls in. -/
theorem cx_box : cx (F := Ideal) P (BitVec.ofNat 32 (r % 1152)) = ((box1 P w s r 0 : ℝ) : EReal) := by
  have h : r / 9 % w = r % 1152 / 9 % w := by
    have h1 : r / 9 = r % 1152 / 9 + 128 * (r / 1152) := by omega
    obtain ⟨k, hk⟩ := hw
    rw [h1, hk, Nat.mul_assoc, Nat.add_mul_mod_self_left]
  rw [show r % 1152 = 9 * (r % 1152 / 9) + r % 1152 % 9 by omega, cx_eq G _ _ (by omega) (by omega), box1, if_pos rfl, h]

theorem cy_box : cy (F := Ideal) P d (BitVec.ofNat 32 (r % 1152)) = ((box1 P w s r 1 : ℝ) : EReal) := by
  have h : r / 9 / w = r % 1152 / 9 / w + 128 / w * (r / 1152) := by
    have h1 : r / 9 = r % 1152 / 9 + 128 * (r / 1152) := by omega
    obtain ⟨k, hk⟩ := hw
    rw [h1, hk, Nat.mul_assoc, Nat.add_mul_div_left _ _ G.pos, Nat.mul_div_cancel_left _ G.pos]
  rw [show r % 1152 = 9 * (r % 1152 / 9) + r % 1152 % 9 by omega, cy_eq G _ _ (by omega) (by omega) d hd, box1,
    if_neg (by decide), if_pos rfl, h, hdr]
  congr 1
  push_cast
  ring

omit hw hd hdr in
/-- The kernel's width and height. -/
theorem bw_box : bw (F := Ideal) P (BitVec.ofNat 32 (r % 1152)) = ((box1 P w s r 2 : ℝ) : EReal) := by
  rw [show r % 1152 = 9 * (r % 1152 / 9) + r % 1152 % 9 by omega, bw_eq G _ _ (by omega) (by omega), box1,
    if_neg (by decide), if_neg (by decide), if_pos rfl, show r % 1152 % 9 = r % 9 by omega]

omit hw hd hdr in
theorem bh_box : bh (F := Ideal) P (BitVec.ofNat 32 (r % 1152)) = ((box1 P w s r 3 : ℝ) : EReal) := by
  rw [show r % 1152 = 9 * (r % 1152 / 9) + r % 1152 % 9 by omega, bh_eq G _ _ (by omega) (by omega), box1,
    if_neg (by decide), if_neg (by decide), if_neg (by decide), show r % 1152 % 9 = r % 9 by omega]

/-- What the first table's chunk holds is the box. -/
theorem val1_box (j : ℕ) (hj : j < 4) :
    val1 (F := Ideal) P d (BitVec.ofNat 32 j) (BitVec.ofNat 32 (r % 1152)) = ((box1 P w s r j : ℝ) : EReal) := by
  have h0 := cx_box G hw d hd r hdr
  have h1 := cy_box G hw d hd r hdr
  have h2 := bw_box G r
  have h3 := bh_box G r
  unfold val1 ctr
  interval_cases j
  · exact h0
  · exact h1
  · exact h2
  · exact h3

/-- What the second table's chunk holds is the box by its corners. -/
theorem val2_box (j : ℕ) (hj : j < 4) :
    val2 (F := Ideal) P d (BitVec.ofNat 32 j) (BitVec.ofNat 32 (r % 1152)) = ((box2 P w s r j : ℝ) : EReal) := by
  have h0 := cx_box G hw d hd r hdr
  have h1 := cy_box G hw d hd r hdr
  have h2 := bw_box G r
  have h3 := bh_box G r
  have hz : (fb 0x00000000#32 : Ideal .f32) = ((0 : ℝ) : EReal) := by rw [fb_num _ (by decide), num_zero]
  have hh : (fb 0x3F000000#32 : Ideal .f32) = ((1 / 2 : ℝ) : EReal) := by rw [fb_num _ (by decide), num_half]
  have minus : ∀ x y : ℝ, FloatOps.addf (F := Ideal) (φ := .f32) (x : EReal)
      (FloatOps.subf (F := Ideal) (φ := .f32) ((0 : ℝ) : EReal) (FloatOps.mulf (F := Ideal) (φ := .f32) (y : EReal) ((1 / 2 : ℝ) : EReal)))
      = ((x - y / 2 : ℝ) : EReal) := by
    intro x y
    simp only [Ideal.addf_def, Ideal.subf_def, Ideal.mulf_def, ← EReal.coe_sub, ← EReal.coe_add, ← EReal.coe_mul]
    congr 1; ring
  have plus : ∀ x y : ℝ, FloatOps.addf (F := Ideal) (φ := .f32) (x : EReal)
      (FloatOps.mulf (F := Ideal) (φ := .f32) (y : EReal) ((1 / 2 : ℝ) : EReal)) = ((x + y / 2 : ℝ) : EReal) := by
    intro x y
    simp only [Ideal.addf_def, Ideal.mulf_def, ← EReal.coe_add, ← EReal.coe_mul]
    congr 1; ring
  unfold val2 ctr ext
  rw [h0, h1, h2, h3, hz, hh]
  interval_cases j
  · exact minus _ _
  · exact minus _ _
  · exact plus _ _
  · exact plus _ _

end

/-! ## The tables -/

/-- The level box `n` of the whole list belongs to, its grid's width, its stride, and the box's number within the level. -/
def ofBox {α : Type} (f : Level → ℕ → ℕ → ℕ → α) (n : ℕ) : α :=
  if n < 36864 then f level0 64 8 n else if n < 46080 then f level1 32 16 (n - 36864)
  else if n < 48384 then f level2 16 32 (n - 46080) else f level3 8 64 (n - 48384)

/-- Every start is a nonnegative finite word. -/
theorem dy_small (k : ℕ) (hk : k < 43) : (dy k).toNat < 0x7F800000 := by
  interval_cases k <;> decide

/-- The starts, chunk by chunk: 16, 64 and 256 pixels more for each chunk of the first three levels. -/
theorem num_dy (k : ℕ) (hk : k < 43) :
    num (dy k) = ((if k < 32 then 16 * k else if k < 40 then 64 * (k - 32) else if k < 42 then 256 * (k - 40) else 0 : ℕ) : ℝ) := by
  interval_cases k <;> norm_num [dy, dyTab, num]

/-- Column `n` of a table whose chunks hold boxes is box `n`. -/
theorem table_box (val : Level → BitVec 32 → BitVec 32 → BitVec 32 → Ideal .f32) (box : Level → ℕ → ℕ → ℕ → ℕ → ℝ)
    (h : ∀ {P : Level} {w s : ℕ}, Good P w s → w ∣ 128 → ∀ d : BitVec 32, d.toNat < 0x7F800000 → ∀ r : ℕ,
      num d = (s * (128 / w) * (r / 1152) : ℕ) → ∀ j : ℕ, j < 4 →
      val P d (BitVec.ofNat 32 j) (BitVec.ofNat 32 (r % 1152)) = ((box P w s r j : ℝ) : EReal))
    (j : Fin 4) (n : Fin 48960) :
    table val (ix2 j n) = ((ofBox (fun P w s r => box P w s r j.val) n.val : ℝ) : EReal) := by
  have hn := n.isLt
  have hd := num_dy (n.val / 1152) (by omega)
  have hs := dy_small (n.val / 1152) (by omega)
  show val (lvl (n.val / 1152)) (dy (n.val / 1152)) (BitVec.ofNat 32 j.val) (BitVec.ofNat 32 (n.val % 1152)) = _
  unfold lvl ofBox
  by_cases h0 : n.val < 36864
  · rw [if_pos (by omega)] at hd ⊢
    rw [if_pos h0]
    exact h good0 (by decide) _ hs n.val hd j.val j.isLt
  rw [if_neg (by omega)] at hd ⊢
  rw [if_neg h0]
  by_cases h1 : n.val < 46080
  · rw [if_pos (by omega)] at hd ⊢
    rw [if_pos h1, show n.val % 1152 = (n.val - 36864) % 1152 by omega]
    exact h good1 (by decide) _ hs (n.val - 36864) (hd.trans (by congr 1; omega)) j.val j.isLt
  rw [if_neg (by omega)] at hd ⊢
  rw [if_neg h1]
  by_cases h2 : n.val < 48384
  · rw [if_pos (by omega)] at hd ⊢
    rw [if_pos h2, show n.val % 1152 = (n.val - 46080) % 1152 by omega]
    exact h good2 (by decide) _ hs (n.val - 46080) (hd.trans (by congr 1; omega)) j.val j.isLt
  rw [if_neg (by omega)] at hd ⊢
  rw [if_neg h2, show n.val % 1152 = (n.val - 48384) % 1152 by omega]
  exact h good3 (by decide) _ hs (n.val - 48384) (hd.trans (by congr 1; omega)) j.val j.isLt

/-- Column `n` of the first table is box `n`. -/
theorem table1 (j : Fin 4) (n : Fin 48960) :
    table (F := Ideal) val1 (ix2 j n) = ((ofBox (fun P w s r => box1 P w s r j.val) n.val : ℝ) : EReal) :=
  table_box val1 box1 (fun G hw d hd r hdr j hj => val1_box G hw d hd r hdr j hj) j n

/-- Column `n` of the second table is box `n` by its corners. -/
theorem table2 (j : Fin 4) (n : Fin 48960) :
    table (F := Ideal) val2 (ix2 j n) = ((ofBox (fun P w s r => box2 P w s r j.val) n.val : ℝ) : EReal) :=
  table_box val2 box2 (fun G hw d hd r hdr j hj => val2_box G hw d hd r hdr j hj) j n

end Cert.Anchors

end
-- ==== Proof.Layer.lean ====
/- One level of the reference's boxes, as the reference computes it, over the level's sizes and constants. -/
module

public import proofs.«01_k».proof.Proof.Boxes
public import Idealize.ShloMosaic.Lib.Pointwise

@[expose] public section

set_option maxRecDepth 16384

noncomputable section

namespace Cert.Layer

open Idealize.ShloMosaic Cert.Anchors

/-- The shape facts a level of an `h × h` grid (`h = k + 1`, `n` boxes) uses. -/
structure Facts (k h n : ℕ) : Prop where
  b0 : (⟨0, ![]⟩ : Shape).BroadcastsInDim ⟨1, ![k]⟩ (![] : Fin 0 → Fin 1)
  b1 : (⟨1, ![1]⟩ : Shape).BroadcastsInDim ⟨1, ![k]⟩ (![0] : Fin 1 → Fin 1)
  b2 : (⟨0, ![]⟩ : Shape).BroadcastsInDim ⟨1, ![1]⟩ (![] : Fin 0 → Fin 1)
  c0 : (⟨0, ![]⟩ : Shape).ShapeCasts ⟨1, ![1]⟩
  a0 : Shape.Concatenates [⟨1, ![k]⟩, ⟨1, ![1]⟩] ⟨1, ![h]⟩ 0
  b3 : (⟨1, ![h]⟩ : Shape).BroadcastsInDim ⟨2, ![h, h]⟩ (![1] : Fin 1 → Fin 2)
  b4 : (⟨1, ![h]⟩ : Shape).BroadcastsInDim ⟨2, ![h, h]⟩ (![0] : Fin 1 → Fin 2)
  b5 : (⟨2, ![h, h]⟩ : Shape).BroadcastsInDim ⟨3, ![h, h, 1]⟩ (![0, 1] : Fin 2 → Fin 3)
  a1 : Shape.Concatenates [⟨3, ![h, h, 1]⟩, ⟨3, ![h, h, 1]⟩] ⟨3, ![h, h, 2]⟩ 2
  b6 : (⟨3, ![h, h, 2]⟩ : Shape).BroadcastsInDim ⟨4, ![h, h, 1, 2]⟩ (![0, 1, 3] : Fin 3 → Fin 4)
  b7 : (⟨4, ![h, h, 1, 2]⟩ : Shape).BroadcastsInDim ⟨4, ![h, h, 9, 2]⟩ (![0, 1, 2, 3] : Fin 4 → Fin 4)
  c1 : (⟨1, ![18]⟩ : Shape).ShapeCasts ⟨3, ![18, 1, 1]⟩
  b8 : (⟨3, ![18, 1, 1]⟩ : Shape).BroadcastsInDim ⟨3, ![18, h, h]⟩ (![0, 1, 2] : Fin 3 → Fin 3)
  t0 : (⟨3, ![18, h, h]⟩ : Shape).Transposes [1, 2, 0] ⟨3, ![h, h, 18]⟩
  c2 : (⟨3, ![h, h, 18]⟩ : Shape).ShapeCasts ⟨4, ![h, h, 9, 2]⟩
  a2 : Shape.Concatenates [⟨4, ![h, h, 9, 2]⟩, ⟨4, ![h, h, 9, 2]⟩] ⟨4, ![h, h, 9, 4]⟩ 3
  c3 : (⟨4, ![h, h, 9, 4]⟩ : Shape).ShapeCasts ⟨2, ![n, 4]⟩

variable {F : FTy → Type} [FloatOps F] {k h n : ℕ} (H : Facts k h n)

/-- Where along the line each of the first `k` points is: its number over `k`. -/
def along (cnt : BitVec 32) : FVec F ⟨1, ![k]⟩ .f32 :=
  Host.divf (sitofp .f32 (iotaInDim ⟨1, ![k]⟩ 32 0)) (broadcastInDim ⟨1, ![k]⟩ ![] H.b0 (constant ⟨0, ![]⟩ .f32 cnt))

/-- The evenly spaced points from `a` to `b`. -/
def line (a b cnt : BitVec 32) : FVec F ⟨1, ![h]⟩ .f32 :=
  concatenate ⟨1, ![h]⟩ 0
    [⟨⟨1, ![k]⟩, addf
      (mulf (broadcastInDim ⟨1, ![k]⟩ ![0] H.b1 (shapeCast _ (constant ⟨0, ![]⟩ .f32 a) H.c0))
        (subf (broadcastInDim ⟨1, ![k]⟩ ![] H.b0 (constant ⟨0, ![]⟩ .f32 0x3F800000#32)) (along H cnt)))
      (mulf (broadcastInDim ⟨1, ![k]⟩ ![0] H.b1 (shapeCast _ (constant ⟨0, ![]⟩ .f32 b) H.c0)) (along H cnt))⟩,
     ⟨⟨1, ![1]⟩, broadcastInDim ⟨1, ![1]⟩ ![] H.b2 (constant ⟨0, ![]⟩ .f32 b)⟩] H.a0

/-- The centres: for each row, column and kind of box, x then y. -/
def grid (x : FVec F ⟨1, ![h]⟩ .f32) : FVec F ⟨4, ![h, h, 9, 2]⟩ .f32 :=
  broadcastInDim ⟨4, ![h, h, 9, 2]⟩ ![0, 1, 2, 3] H.b7 (broadcastInDim ⟨4, ![h, h, 1, 2]⟩ ![0, 1, 3] H.b6
    (concatenate ⟨3, ![h, h, 2]⟩ 2
      [⟨⟨3, ![h, h, 1]⟩, broadcastInDim ⟨3, ![h, h, 1]⟩ ![0, 1] H.b5 (broadcastInDim ⟨2, ![h, h]⟩ ![1] H.b3 x)⟩,
       ⟨⟨3, ![h, h, 1]⟩, broadcastInDim ⟨3, ![h, h, 1]⟩ ![0, 1] H.b5 (broadcastInDim ⟨2, ![h, h]⟩ ![0] H.b4 x)⟩] H.a1))

/-- The sizes: for each row, column and kind of box, width then height. -/
def sizes (w : FVec F ⟨1, ![18]⟩ .f32) : FVec F ⟨4, ![h, h, 9, 2]⟩ .f32 :=
  shapeCast _ (transpose ⟨3, ![h, h, 18]⟩ [1, 2, 0]
    (broadcastInDim ⟨3, ![18, h, h]⟩ ![0, 1, 2] H.b8 (shapeCast _ w H.c1)) H.t0) H.c2

/-- The level's boxes, one to a row. -/
def layer (x : FVec F ⟨1, ![h]⟩ .f32) (w : FVec F ⟨1, ![18]⟩ .f32) : FVec F ⟨2, ![n, 4]⟩ .f32 :=
  shapeCast _ (concatenate ⟨4, ![h, h, 9, 4]⟩ 3
    [⟨⟨4, ![h, h, 9, 2]⟩, grid H x⟩, ⟨⟨4, ![h, h, 9, 2]⟩, sizes H w⟩] H.a2) H.c3

/-! ## Reading a level -/

/-- The four coordinates of box `r` from the points `X` and the sizes `W`. -/
def read (h : ℕ) (X W : ℕ → ℝ) (r j : ℕ) : ℝ :=
  if j < 2 then if j < 1 then X (r / 9 % h) else X (r / 9 / h) else W (r % 9 * 2 + (j - 2))

/-- An entry of a level is a point or a size where the level's own entry, read at its index, is one of them. -/
theorem read_eq {h : ℕ} {x : FVec Ideal ⟨1, ![h]⟩ .f32} {w : FVec Ideal ⟨1, ![18]⟩ .f32} {X W : ℕ → ℝ}
    (hx : ∀ i : Fin h, x (ix1 i) = ((X i.val : ℝ) : EReal)) (hw : ∀ i : Fin 18, w (ix1 i) = ((W i.val : ℝ) : EReal)) {r j : ℕ}
    (c y : Fin h) (k : 2 ≤ j → Fin 18) (hc : c.val = r / 9 % h) (hy : y.val = r / 9 / h) (hk : ∀ e, (k e).val = r % 9 * 2 + (j - 2)) :
    (if e : j < 2 then if _e' : j < 1 then x (ix1 c) else x (ix1 y) else w (ix1 (k (Nat.le_of_not_lt e)))) = ((read h X W r j : ℝ) : EReal) := by
  unfold read
  by_cases h1 : j < 2
  · rw [dif_pos h1, if_pos h1]
    by_cases h2 : j < 1
    · rw [dif_pos h2, if_pos h2, hx, hc]
    · rw [dif_neg h2, if_neg h2, hx, hy]
  · rw [dif_neg h1, if_neg h1, hw, hk]

section
variable {w : FVec Ideal ⟨1, ![18]⟩ .f32} {X W : ℕ → ℝ} (hw : ∀ i : Fin 18, w (ix1 i) = ((W i.val : ℝ) : EReal))
include hw

/-- Box `r` of the first level. -/
theorem layer64 (H : Facts 63 64 36864) {x : FVec Ideal ⟨1, ![64]⟩ .f32} (hx : ∀ i : Fin 64, x (ix1 i) = ((X i.val : ℝ) : EReal))
    (r : Fin 36864) (j : Fin 4) : layer H x w (ix2 r j) = ((read 64 X W r.val j.val : ℝ) : EReal) := by
  have hr := r.isLt
  have hj := j.isLt
  pointwise [layer, grid, sizes]
  exact read_eq hx hw ⟨r.val / 9 % 64, by omega⟩ ⟨r.val / 576, by omega⟩ (fun _ => ⟨r.val % 9 * 2 + (j.val - 2), by omega⟩)
    rfl (by show r.val / 576 = _; omega) fun _ => rfl

/-- Box `r` of the second level. -/
theorem layer32 (H : Facts 31 32 9216) {x : FVec Ideal ⟨1, ![32]⟩ .f32} (hx : ∀ i : Fin 32, x (ix1 i) = ((X i.val : ℝ) : EReal))
    (r : Fin 9216) (j : Fin 4) : layer H x w (ix2 r j) = ((read 32 X W r.val j.val : ℝ) : EReal) := by
  have hr := r.isLt
  have hj := j.isLt
  pointwise [layer, grid, sizes]
  exact read_eq hx hw ⟨r.val / 9 % 32, by omega⟩ ⟨r.val / 288, by omega⟩ (fun _ => ⟨r.val % 9 * 2 + (j.val - 2), by omega⟩)
    rfl (by show r.val / 288 = _; omega) fun _ => rfl

/-- Box `r` of the third level. -/
theorem layer16 (H : Facts 15 16 2304) {x : FVec Ideal ⟨1, ![16]⟩ .f32} (hx : ∀ i : Fin 16, x (ix1 i) = ((X i.val : ℝ) : EReal))
    (r : Fin 2304) (j : Fin 4) : layer H x w (ix2 r j) = ((read 16 X W r.val j.val : ℝ) : EReal) := by
  have hr := r.isLt
  have hj := j.isLt
  pointwise [layer, grid, sizes]
  exact read_eq hx hw ⟨r.val / 9 % 16, by omega⟩ ⟨r.val / 144, by omega⟩ (fun _ => ⟨r.val % 9 * 2 + (j.val - 2), by omega⟩)
    rfl (by show r.val / 144 = _; omega) fun _ => rfl

/-- Box `r` of the last level. -/
theorem layer8 (H : Facts 7 8 576) {x : FVec Ideal ⟨1, ![8]⟩ .f32} (hx : ∀ i : Fin 8, x (ix1 i) = ((X i.val : ℝ) : EReal))
    (r : Fin 576) (j : Fin 4) : layer H x w (ix2 r j) = ((read 8 X W r.val j.val : ℝ) : EReal) := by
  have hr := r.isLt
  have hj := j.isLt
  pointwise [layer, grid, sizes]
  exact read_eq hx hw ⟨r.val / 9 % 8, by omega⟩ ⟨r.val / 72, by omega⟩ (fun _ => ⟨r.val % 9 * 2 + (j.val - 2), by omega⟩)
    rfl (by show r.val / 72 = _; omega) fun _ => rfl

end

/-! ## The points of a line -/

/-- Point `i` of the evenly spaced line from half a stride, at stride `s`: the last one is the line's end, and the others are
    the mix of the two ends by how far along they are. -/
theorem point_eq (k s : ℕ) (hk : 0 < k) (hk' : k < 64) (a b cnt : BitVec 32) (ha : a.toNat < 0x7F800000) (hb : b.toNat < 0x7F800000)
    (hc : cnt.toNat < 0x7F800000) (na : num a = s / 2) (nb : num b = (k + 1 / 2) * s) (nc : num cnt = k) (i : ℕ) (hi : i ≤ k) :
    (if _h : i < k then
        Ideal.ofBits .f32 a * (1 - Ideal.div (FloatOps.sitofp (F := Ideal) .f32 (BitVec.ofNat 32 i)) (Ideal.ofBits .f32 cnt))
          + Ideal.ofBits .f32 b * Ideal.div (FloatOps.sitofp (F := Ideal) .f32 (BitVec.ofNat 32 i)) (Ideal.ofBits .f32 cnt)
      else Ideal.ofBits .f32 b) = ((((i : ℝ) + 1 / 2) * s : ℝ) : EReal) := by
  have ea : Ideal.ofBits .f32 a = ((s / 2 : ℝ) : EReal) := (fb_num a ha).trans (by rw [na])
  have eb : Ideal.ofBits .f32 b = (((k + 1 / 2) * s : ℝ) : EReal) := (fb_num b hb).trans (by rw [nb])
  have ec : Ideal.ofBits .f32 cnt = ((k : ℝ) : EReal) := (fb_num cnt hc).trans (by rw [nc])
  have ei : (FloatOps.sitofp (F := Ideal) .f32 (BitVec.ofNat 32 i) : EReal) = ((i : ℝ) : EReal) := lane_eq i (by omega)
  have k0 : (k : ℝ) ≠ 0 := by exact_mod_cast hk.ne'
  by_cases h : i < k
  · rw [dif_pos h, ea, eb, ec, ei, Ideal.div_coe k0, show (1 : EReal) = ((1 : ℝ) : EReal) from rfl]
    simp only [← EReal.coe_mul, ← EReal.coe_sub, ← EReal.coe_add]
    congr 1
    field_simp
    ring
  · rw [dif_neg h, eb, show i = k by omega]

section
variable {a b cnt : BitVec 32} {s : ℕ} (ha : a.toNat < 0x7F800000) (hb : b.toNat < 0x7F800000) (hc : cnt.toNat < 0x7F800000) (na : num a = s / 2)
include ha hb hc na

/-- The line of the first level, -/
theorem line64 (H : Facts 63 64 36864) (nb : num b = ((63 : ℕ) + 1 / 2) * s) (nc : num cnt = (63 : ℕ)) (i : Fin 64) :
    line (F := Ideal) H a b cnt (ix1 i) = ((((i.val : ℝ) + 1 / 2) * s : ℝ) : EReal) := by
  pointwise [line, along]
  exact point_eq 63 s (by decide) (by decide) a b cnt ha hb hc na nb nc i.val (by omega)

/-- of the second, -/
theorem line32 (H : Facts 31 32 9216) (nb : num b = ((31 : ℕ) + 1 / 2) * s) (nc : num cnt = (31 : ℕ)) (i : Fin 32) :
    line (F := Ideal) H a b cnt (ix1 i) = ((((i.val : ℝ) + 1 / 2) * s : ℝ) : EReal) := by
  pointwise [line, along]
  exact point_eq 31 s (by decide) (by decide) a b cnt ha hb hc na nb nc i.val (by omega)

/-- of the third, -/
theorem line16 (H : Facts 15 16 2304) (nb : num b = ((15 : ℕ) + 1 / 2) * s) (nc : num cnt = (15 : ℕ)) (i : Fin 16) :
    line (F := Ideal) H a b cnt (ix1 i) = ((((i.val : ℝ) + 1 / 2) * s : ℝ) : EReal) := by
  pointwise [line, along]
  exact point_eq 15 s (by decide) (by decide) a b cnt ha hb hc na nb nc i.val (by omega)

/-- and of the last. -/
theorem line8 (H : Facts 7 8 576) (nb : num b = ((7 : ℕ) + 1 / 2) * s) (nc : num cnt = (7 : ℕ)) (i : Fin 8) :
    line (F := Ideal) H a b cnt (ix1 i) = ((((i.val : ℝ) + 1 / 2) * s : ℝ) : EReal) := by
  pointwise [line, along]
  exact point_eq 7 s (by decide) (by decide) a b cnt ha hb hc na nb nc i.val (by omega)

end

/-! ## A level's boxes -/

/-- A level's entry is the box's, where the points are the centres and the sizes are the widths and heights. -/
theorem read_box (P : Level) (h s : ℕ) (W : ℕ → ℝ) (w0 : ∀ a, a < 9 → W (a * 2) = num (width P a))
    (w1 : ∀ a, a < 9 → W (a * 2 + 1) = num (width P a) * tall a) (r j : ℕ) (hj : j < 4) :
    read h (fun i => ((i : ℝ) + 1 / 2) * s) W r j = box1 P h s r j := by
  have hr : r % 9 < 9 := by omega
  unfold read box1
  interval_cases j
  · simp
  · simp
  · simp [w0 _ hr]
  · simp [w1 _ hr]

end Cert.Layer

end
-- ==== Proof.Reference.lean ====
/- The reference's two results read as the boxes in closed form. -/
module

public import proofs.«01_k».proof.Proof.Layer
public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value Cert.Anchors Cert.Layer

/-! ## The four levels -/

theorem facts0 : Layer.Facts 63 64 36864 :=
  ⟨bcast_S_S63, bcast_S1_S63_0, bcast_S_S1, shapeCasts_S_S1, concatenates_S63_S1_S64_d0, bcast_S64_S64x64_1, bcast_S64_S64x64_0,
    bcast_S64x64_S64x64x1_0_1, concatenates_S64x64x1_S64x64x1_S64x64x2_d2, bcast_S64x64x2_S64x64x1x2_0_1_3,
    bcast_S64x64x1x2_S64x64x9x2_0_1_2_3, shapeCasts_S18_S18x1x1, bcast_S18x1x1_S18x64x64_0_1_2, transposes_S18x64x64_S64x64x18_1_2_0,
    shapeCasts_S64x64x18_S64x64x9x2, concatenates_S64x64x9x2_S64x64x9x2_S64x64x9x4_d3, shapeCasts_S64x64x9x4_S36864x4⟩
theorem facts1 : Layer.Facts 31 32 9216 :=
  ⟨bcast_S_S31, bcast_S1_S31_0, bcast_S_S1, shapeCasts_S_S1, concatenates_S31_S1_S32_d0, bcast_S32_S32x32_1, bcast_S32_S32x32_0,
    bcast_S32x32_S32x32x1_0_1, concatenates_S32x32x1_S32x32x1_S32x32x2_d2, bcast_S32x32x2_S32x32x1x2_0_1_3,
    bcast_S32x32x1x2_S32x32x9x2_0_1_2_3, shapeCasts_S18_S18x1x1, bcast_S18x1x1_S18x32x32_0_1_2, transposes_S18x32x32_S32x32x18_1_2_0,
    shapeCasts_S32x32x18_S32x32x9x2, concatenates_S32x32x9x2_S32x32x9x2_S32x32x9x4_d3, shapeCasts_S32x32x9x4_S9216x4⟩
theorem facts2 : Layer.Facts 15 16 2304 :=
  ⟨bcast_S_S15, bcast_S1_S15_0, bcast_S_S1, shapeCasts_S_S1, concatenates_S15_S1_S16_d0, bcast_S16_S16x16_1, bcast_S16_S16x16_0,
    bcast_S16x16_S16x16x1_0_1, concatenates_S16x16x1_S16x16x1_S16x16x2_d2, bcast_S16x16x2_S16x16x1x2_0_1_3,
    bcast_S16x16x1x2_S16x16x9x2_0_1_2_3, shapeCasts_S18_S18x1x1, bcast_S18x1x1_S18x16x16_0_1_2, transposes_S18x16x16_S16x16x18_1_2_0,
    shapeCasts_S16x16x18_S16x16x9x2, concatenates_S16x16x9x2_S16x16x9x2_S16x16x9x4_d3, shapeCasts_S16x16x9x4_S2304x4⟩
theorem facts3 : Layer.Facts 7 8 576 :=
  ⟨bcast_S_S7, bcast_S1_S7_0, bcast_S_S1, shapeCasts_S_S1, concatenates_S7_S1_S8_d0, bcast_S8_S8x8_1, bcast_S8_S8x8_0,
    bcast_S8x8_S8x8x1_0_1, concatenates_S8x8x1_S8x8x1_S8x8x2_d2, bcast_S8x8x2_S8x8x1x2_0_1_3,
    bcast_S8x8x1x2_S8x8x9x2_0_1_2_3, shapeCasts_S18_S18x1x1, bcast_S18x1x1_S18x8x8_0_1_2, transposes_S18x8x8_S8x8x18_1_2_0,
    shapeCasts_S8x8x18_S8x8x9x2, concatenates_S8x8x9x2_S8x8x9x2_S8x8x9x4_d3, shapeCasts_S8x8x9x4_S576x4⟩

/-- A list's entry sits at its own number. -/
theorem place (i : Fin 18) : S18.rowMajor (ix1 i) = i := by
  refine Fin.ext ((Shape.rowMajorPi_succ_val (n := 0) ![18] (ix1 i)).trans ?_)
  have h := (Shape.rowMajorPi (fun a : Fin 0 => (![18] : Fin 1 → Nat) a.succ) (fun a => (ix1 i : S18.Idx) a.succ)).isLt
  simp only [Finset.univ_eq_empty, Finset.prod_empty, Nat.lt_one_iff] at h ⊢
  rw [h]
  exact (Nat.add_zero _).trans (Nat.mul_one _)

/-- A list of eighteen words as a vector. -/
def words (lit : Fin 18 → BitVec 32) : FVec Ideal S18 .f32 := fun i => FloatOps.ofBits .f32 (lit (S18.rowMajor i))

/-- Its numbers, in order. -/
def sizeOf (lit : Fin 18 → BitVec 32) (k : ℕ) : ℝ := if h : k < 18 then num (lit ⟨k, h⟩) else 0

theorem words_at (lit : Fin 18 → BitVec 32) (h : ∀ i, (lit i).toNat < 0x7F800000) (i : Fin 18) :
    words lit (ix1 i) = ((sizeOf lit i.val : ℝ) : EReal) := by
  unfold words sizeOf
  rw [place i, dif_pos i.isLt]
  exact fb_num _ (h i)

/-- A word one binade above another stands for twice its number. -/
theorem num_up (b c : BitVec 32) (h : c.toNat = b.toNat + 2 ^ 23) (hb : 2 ^ 23 ≤ b.toNat) : num c = num b * 2 := by
  unfold num
  have h1 : c.toNat / 2 ^ 23 = b.toNat / 2 ^ 23 + 1 := by omega
  have h2 : c.toNat % 2 ^ 23 = b.toNat % 2 ^ 23 := by omega
  rw [if_neg (by omega), if_neg (by omega), h1, h2, show (((b.toNat / 2 ^ 23 + 1 : ℕ) : ℤ) - 150)
    = (((b.toNat / 2 ^ 23 : ℕ) : ℤ) - 150) + 1 by push_cast; ring, zpow_add_one₀ (by norm_num), mul_assoc]

/-- The words of a level's sizes are nonnegative, finite and normal; of each pair the first is the width's word, and the second,
    the height's, is a binade above it, the same, or a binade below it, by the box's shape. -/
def Sized (P : Level) (lit : Fin 18 → BitVec 32) : Prop :=
  (∀ i, 2 ^ 23 ≤ (lit i).toNat ∧ (lit i).toNat < 0x7F800000)
    ∧ ∀ a : Fin 9, lit ⟨a.val * 2, by omega⟩ = width P a.val
      ∧ (if a.val / 3 = 0 then (lit ⟨a.val * 2 + 1, by omega⟩).toNat = (lit ⟨a.val * 2, by omega⟩).toNat + 2 ^ 23
        else if a.val / 3 = 1 then (lit ⟨a.val * 2 + 1, by omega⟩).toNat = (lit ⟨a.val * 2, by omega⟩).toNat
        else (lit ⟨a.val * 2, by omega⟩).toNat = (lit ⟨a.val * 2 + 1, by omega⟩).toNat + 2 ^ 23)

instance (P : Level) (lit : Fin 18 → BitVec 32) : Decidable (Sized P lit) := by unfold Sized; infer_instance

theorem sized0 : Sized level0 lit0 := by decide
theorem sized1 : Sized level1 lit1 := by decide
theorem sized2 : Sized level2 lit2 := by decide
theorem sized3 : Sized level3 lit3 := by decide

section
variable {P : Level} {lit : Fin 18 → BitVec 32} (S : Sized P lit)
include S

theorem Sized.small (i : Fin 18) : (lit i).toNat < 0x7F800000 := (S.1 i).2

/-- The even sizes are the widths, -/
theorem Sized.wide (a : ℕ) (ha : a < 9) : sizeOf lit (a * 2) = num (width P a) := by
  unfold sizeOf
  rw [dif_pos (by omega)]
  exact congrArg num (S.2 ⟨a, ha⟩).1

/-- and the odd ones the heights. -/
theorem Sized.high (a : ℕ) (ha : a < 9) : sizeOf lit (a * 2 + 1) = num (width P a) * tall a := by
  rw [← S.wide a ha]
  have h := (S.2 ⟨a, ha⟩).2
  unfold sizeOf tall
  rw [dif_pos (by omega), dif_pos (by omega)]
  by_cases h0 : a / 3 = 0
  · rw [if_pos h0] at h ⊢
    exact num_up _ _ h (S.1 _).1
  rw [if_neg h0] at h ⊢
  by_cases h1 : a / 3 = 1
  · rw [if_pos h1] at h ⊢
    rw [mul_one, BitVec.eq_of_toNat_eq h]
  rw [if_neg h1] at h ⊢
  rw [num_up _ _ h (S.1 _).1]
  ring

end

abbrev boxes0 : FVec Ideal S36864x4 .f32 := layer facts0 (line facts0 0x40800000#32 0x43FE0000#32 0x427C0000#32) (words lit0)
abbrev boxes1 : FVec Ideal S9216x4 .f32 := layer facts1 (line facts1 0x41000000#32 0x43FC0000#32 0x41F80000#32) (words lit1)
abbrev boxes2 : FVec Ideal S2304x4 .f32 := layer facts2 (line facts2 0x41800000#32 0x43F80000#32 0x41700000#32) (words lit2)
abbrev boxes3 : FVec Ideal S576x4 .f32 := layer facts3 (line facts3 0x42000000#32 0x43F00000#32 0x40E00000#32) (words lit3)

/-- The first level's boxes, -/
theorem boxes0_at (r : Fin 36864) (j : Fin 4) : boxes0 (ix2 r j) = ((box1 level0 64 8 r.val j.val : ℝ) : EReal) :=
  (layer64 (words_at _ sized0.small) facts0 (line64 (a := 0x40800000#32) (b := 0x43FE0000#32) (cnt := 0x427C0000#32) (s := 8)
    (by decide) (by decide) (by decide) (by norm_num [num]) facts0 (by norm_num [num]) (by norm_num [num])) r j).trans
    (congrArg _ (read_box level0 64 8 _ sized0.wide sized0.high r.val j.val j.isLt))
/-- the second's, -/
theorem boxes1_at (r : Fin 9216) (j : Fin 4) : boxes1 (ix2 r j) = ((box1 level1 32 16 r.val j.val : ℝ) : EReal) :=
  (layer32 (words_at _ sized1.small) facts1 (line32 (a := 0x41000000#32) (b := 0x43FC0000#32) (cnt := 0x41F80000#32) (s := 16)
    (by decide) (by decide) (by decide) (by norm_num [num]) facts1 (by norm_num [num]) (by norm_num [num])) r j).trans
    (congrArg _ (read_box level1 32 16 _ sized1.wide sized1.high r.val j.val j.isLt))
/-- the third's, -/
theorem boxes2_at (r : Fin 2304) (j : Fin 4) : boxes2 (ix2 r j) = ((box1 level2 16 32 r.val j.val : ℝ) : EReal) :=
  (layer16 (words_at _ sized2.small) facts2 (line16 (a := 0x41800000#32) (b := 0x43F80000#32) (cnt := 0x41700000#32) (s := 32)
    (by decide) (by decide) (by decide) (by norm_num [num]) facts2 (by norm_num [num]) (by norm_num [num])) r j).trans
    (congrArg _ (read_box level2 16 32 _ sized2.wide sized2.high r.val j.val j.isLt))
/-- and the last's. -/
theorem boxes3_at (r : Fin 576) (j : Fin 4) : boxes3 (ix2 r j) = ((box1 level3 8 64 r.val j.val : ℝ) : EReal) :=
  (layer8 (words_at _ sized3.small) facts3 (line8 (a := 0x42000000#32) (b := 0x43F00000#32) (cnt := 0x40E00000#32) (s := 64)
    (by decide) (by decide) (by decide) (by norm_num [num]) facts3 (by norm_num [num]) (by norm_num [num])) r j).trans
    (congrArg _ (read_box level3 8 64 _ sized3.wide sized3.high r.val j.val j.isLt))

/-! ## The results -/

variable (V0 : Valuation τ sig (Elt Ideal))

/-- The first result is the four levels one under the other. -/
theorem v60_eq : res_main_v60 V0 = concatenate S48960x4 0 [⟨S36864x4, boxes0⟩, ⟨S9216x4, boxes1⟩, ⟨S2304x4, boxes2⟩, ⟨S576x4, boxes3⟩]
    concatenates_S36864x4_S9216x4_S2304x4_S576x4_S48960x4_d0 := rfl

/-- The levels one under the other, at box `n`. -/
theorem stack_at (a : FVec Ideal S36864x4 .f32) (b : FVec Ideal S9216x4 .f32) (c : FVec Ideal S2304x4 .f32) (d : FVec Ideal S576x4 .f32)
    (box : Level → ℕ → ℕ → ℕ → ℕ → ℝ)
    (ha : ∀ (r : Fin 36864) (j : Fin 4), a (ix2 r j) = ((box level0 64 8 r.val j.val : ℝ) : EReal))
    (hb : ∀ (r : Fin 9216) (j : Fin 4), b (ix2 r j) = ((box level1 32 16 r.val j.val : ℝ) : EReal))
    (hc : ∀ (r : Fin 2304) (j : Fin 4), c (ix2 r j) = ((box level2 16 32 r.val j.val : ℝ) : EReal))
    (hd : ∀ (r : Fin 576) (j : Fin 4), d (ix2 r j) = ((box level3 8 64 r.val j.val : ℝ) : EReal))
    (n : Fin 48960) (j : Fin 4) :
    concatenate S48960x4 0 [⟨S36864x4, a⟩, ⟨S9216x4, b⟩, ⟨S2304x4, c⟩, ⟨S576x4, d⟩]
      concatenates_S36864x4_S9216x4_S2304x4_S576x4_S48960x4_d0 (ix2 n j)
      = ((ofBox (fun P w s r => box P w s r j.val) n.val : ℝ) : EReal) := by
  pointwise []
  unfold ofBox
  by_cases h0 : n.val < 36864
  · rw [dif_pos h0, if_pos h0, ha]
  rw [dif_neg h0, if_neg h0]
  by_cases h1 : n.val < 46080
  · rw [dif_pos (by omega), if_pos h1, hb]
  rw [dif_neg (by omega), if_neg h1]
  by_cases h2 : n.val < 48384
  · rw [dif_pos (by omega), if_pos h2, hc]
    simp only [show n.val - 36864 - 9216 = n.val - 46080 by omega]
  rw [dif_neg (by omega), if_neg h2, hd]
  simp only [show n.val - 36864 - 9216 - 2304 = n.val - 48384 by omega]

/-- Row `n` of the first result is box `n`. -/
theorem result1 (n : Fin 48960) (j : Fin 4) :
    res_main_v60 V0 (ix2 n j) = ((ofBox (fun P w s r => box1 P w s r j.val) n.val : ℝ) : EReal) :=
  (congrFun (v60_eq V0) _).trans (stack_at boxes0 boxes1 boxes2 boxes3 box1 boxes0_at boxes1_at boxes2_at boxes3_at n j)

/-- The corners' rule at every level is the corners' rule on the boxes. -/
theorem ofBox_box2 (n j : ℕ) : ofBox (fun P w s r => box2 P w s r j) n
    = if j < 2 then ofBox (fun P w s r => box1 P w s r j) n - ofBox (fun P w s r => box1 P w s r (j + 2)) n / 2
      else ofBox (fun P w s r => box1 P w s r (j - 2)) n + ofBox (fun P w s r => box1 P w s r j) n / 2 := by
  unfold ofBox box2
  split_ifs <;> rfl

/-- The second result, as the operations make it of the first. -/
def corners : FVec Ideal S48960x4 .f32 :=
  concatenate S48960x4 1
    [⟨S48960x2, subf (res_main_v61 V0) (Host.divf (res_main_v62 V0) (broadcastInDim S48960x2 ![] bcast_S_S48960x2 (constant S_ .f32 0x40000000#32)))⟩,
     ⟨S48960x2, addf (res_main_v61 V0) (Host.divf (res_main_v62 V0) (broadcastInDim S48960x2 ![] bcast_S_S48960x2 (constant S_ .f32 0x40000000#32)))⟩]
    concatenates_S48960x2_S48960x2_S48960x4_d1

/-- Row `n` of the second result is box `n` by its corners. -/
theorem result2 (n : Fin 48960) (j : Fin 4) :
    corners V0 (ix2 n j) = ((ofBox (fun P w s r => box2 P w s r j.val) n.val : ℝ) : EReal) := by
  have e2 : Ideal.ofBits .f32 0x40000000#32 = ((2 : ℝ) : EReal) := (fb_num _ (by decide)).trans (by rw [num_two])
  have hj := j.isLt
  rw [ofBox_box2]
  pointwise [corners, res_main_v61, res_main_v62]
  by_cases h : j.val < 2
  · rw [dif_pos h, if_pos h, result1, result1, e2, Ideal.div_coe (by norm_num)]
    simp only [← EReal.coe_mul, ← EReal.coe_sub, Nat.add_comm 2 j.val, mul_one_div]
  · rw [dif_neg h, if_neg h, result1, result1, e2, Ideal.div_coe (by norm_num)]
    simp only [← EReal.coe_mul, ← EReal.coe_add, show 2 + (j.val - 2) = j.val by omega, mul_one_div]

/-! ## The run -/

/-- The reference uses no counters. -/
theorem sem_zero (s : MemSt nD τ sig (Elt Ideal)) : s.sem = fun _ => 0 := sem_eq_zero_of_no_sems (by decide) s

end Cert.ReferenceIdeal.Hand

end
-- ==== Proof.lean ====
/- The five claims: each program runs to its end with its arguments unchanged and its counters at zero, the idealized kernel is
   the kernel's own text, and over the extended reals the kernel returns what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.IdealFrame
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem Cert.Anchors

/-- The kernel runs, its arguments end unchanged and its counters read zero. -/
theorem quiescent_Kernel : Cert.quiescent_Kernel := fun m ρ _ =>
  (θ_run _ _ _).mono (fun _ h => ⟨fun c => (h.1 c).2.2, h.2⟩) (Cert.Kernel.Hand.run (F := Bits) m ρ)

/-- The idealized kernel runs, its arguments end unchanged and its counters read zero. -/
theorem quiescent_KernelIdeal : Cert.quiescent_KernelIdeal := fun m ρ _ =>
  (θ_run _ _ _).mono (fun _ h => ⟨fun c => (h.1 c).2.2, h.2⟩) (Cert.KernelIdeal.Hand.run (F := Ideal) m ρ)

/-- The reference runs, its arguments end unchanged and its counters read zero. -/
theorem quiescent_ReferenceIdeal : Cert.quiescent_ReferenceIdeal := fun m ρ _ =>
  (θ_run _ _ _).mono (fun r h => ⟨fun c => (h c).2.2, Cert.ReferenceIdeal.Hand.sem_zero r.2⟩)
    (Cert.ReferenceIdeal.Value.run (F := Ideal) m ρ)

/-- The first result: the transposed table of boxes is the reference's list of boxes. -/
theorem first (V0) : Cert.ReferenceIdeal.Value.res_main_v60 (F := Ideal) V0
    = transpose Cert.KernelIdeal.S48960x4 [1, 0] (table (F := Ideal) val1 : Cert.KernelIdeal.S4x48960.Idx → Ideal .f32)
        Cert.KernelIdeal.Gen.transposes_S4x48960_S48960x4_1_0 := by
  funext i
  obtain ⟨n, j, rfl⟩ : ∃ (n : Fin 48960) (j : Fin 4), i = ix2 n j := ⟨i 0, i 1, eq_ix2 i⟩
  refine (Cert.ReferenceIdeal.Hand.result1 V0 n j).trans ?_
  pointwise []
  exact (table1 j n).symm

/-- The second result: the transposed table of corners is the reference's list of corners. -/
theorem second (V0) : Cert.ReferenceIdeal.Hand.corners V0
    = transpose Cert.KernelIdeal.S48960x4 [1, 0] (table (F := Ideal) val2 : Cert.KernelIdeal.S4x48960.Idx → Ideal .f32)
        Cert.KernelIdeal.Gen.transposes_S4x48960_S48960x4_1_0 := by
  funext i
  obtain ⟨n, j, rfl⟩ : ∃ (n : Fin 48960) (j : Fin 4), i = ix2 n j := ⟨i 0, i 1, eq_ix2 i⟩
  refine (Cert.ReferenceIdeal.Hand.result2 V0 n j).trans ?_
  pointwise []
  exact (table2 j n).symm

/-- Over the extended reals the kernel and the reference return the same two arrays. -/
theorem algebraic : Cert.algebraic_KernelIdeal_ReferenceIdeal := by
  intro m ρ m' ρ' _ _
  refine ⟨fun _ => transpose Cert.KernelIdeal.S48960x4 [1, 0] (table (F := Ideal) val1 : Cert.KernelIdeal.S4x48960.Idx → Ideal .f32)
      Cert.KernelIdeal.Gen.transposes_S4x48960_S48960x4_1_0,
    fun _ => transpose Cert.KernelIdeal.S48960x4 [1, 0] (table (F := Ideal) val2 : Cert.KernelIdeal.S4x48960.Idx → Ideal .f32)
      Cert.KernelIdeal.Gen.transposes_S4x48960_S48960x4_1_0,
    (θ_run _ _ _).mono (fun _ h => h.1) (Cert.KernelIdeal.Hand.run (F := Ideal) m ρ),
    (θ_run _ _ _).mono (fun _ h c => ⟨(h c).1.trans (first _), (h c).2.1.trans (second _), (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic⟩

end Cert.Proof

end
